-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_KernelIdeal [hPre_finite_router_KernelIdeal : Cert.Pre_finite_router_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_ReferenceIdeal [hPre_finite_router_ReferenceIdeal : Cert.Pre_finite_router_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router_KernelIdeal [hKernelIdeal : Cert.KernelIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router_ReferenceIdeal [hReferenceIdeal : Cert.ReferenceIdeal.Facts] [hPre_finite_router_ReferenceIdeal : Cert.Pre_finite_router_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router_KernelIdeal [hKernelIdeal : Cert.KernelIdeal.Facts] [hReferenceIdeal : Cert.ReferenceIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router_KernelIdeal : Cert.Pre_finite_router_KernelIdeal.Facts) (hPre_finite_router_ReferenceIdeal : Cert.Pre_finite_router_ReferenceIdeal.Facts),
    quiescent_Kernel (hKernel := hKernel)
    ∧ quiescent_KernelIdeal (hKernelIdeal := hKernelIdeal)
    ∧ quiescent_KernelIdeal_pre_finite_router_KernelIdeal (hKernelIdeal := hKernelIdeal) (hPre_finite_router_KernelIdeal := hPre_finite_router_KernelIdeal)
    ∧ quiescent_ReferenceIdeal (hReferenceIdeal := hReferenceIdeal)
    ∧ quiescent_ReferenceIdeal_pre_finite_router_ReferenceIdeal (hReferenceIdeal := hReferenceIdeal) (hPre_finite_router_ReferenceIdeal := hPre_finite_router_ReferenceIdeal)
    ∧ preserves_Kernel_KernelIdeal
    ∧ algebraic_KernelIdeal_ReferenceIdeal_pre_finite_router_KernelIdeal (hKernelIdeal := hKernelIdeal) (hReferenceIdeal := hReferenceIdeal) (hPre_finite_router_KernelIdeal := hPre_finite_router_KernelIdeal)
-- ==== Pre_finite_router_KernelIdeal.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S128x256 : Shape := ⟨2, ![128, 256]⟩
abbrev S_ : Shape := ⟨0, ![]⟩

class Facts : Prop where
  bitsLt_bf16_f32 : FTy.bits .bf16 < FTy.bits .f32
  bcast_S_S256x128 : S_.BroadcastsInDim S256x128 (![] : Fin 0 → Fin S256x128.rank)
  reducesTo_S256x128_S_d0_1 : S256x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_

variable [Facts]

def fn {F : FTy → Type} [FloatOps F] (main_arg0 : FVec F S256x128 .bf16) (main_arg1 : FVec F S128x8 .bf16) (main_arg2 : IVec S256x1 32) (main_arg3 : FVec F S2x128x256 .bf16) (main_arg4 : FVec F S128x256 .bf16) : IVec S_ 1 :=
  let main_v0 : FVec F S256x128 .f32 := (extf .f32 · bitsLt_bf16_f32) main_arg0
  let main_v1 : FVec F S256x128 .f32 := Host.absf main_v0
  let main_cst : FVec F S_ .f32 := constant S_ .f32 0x7F800000#32
  let main_v2 : FVec F S256x128 .f32 := broadcastInDim S256x128 ![] bcast_S_S256x128 main_cst
  let main_v3 : IVec S256x128 1 := cmpf .olt main_v1 main_v2
  let main_c : IVec S_ 1 := constantI S_ 1 1#1
  let main_v4 : IVec S_ 1 := (fun x v => Host.reduce IntOp.andi x v reducesTo_S256x128_S_d0_1 h_S_) main_v3 main_c
  let main_v5 : FVec F S128x8 .f32 := (extf .f32 · bitsLt_bf16_f32) main_arg1
  let main_v6 : FVec F S128x8 .f32 := Host.absf main_v5
  let main_cst_0 : FVec F S_ .f32 := constant S_ .f32 0x7F800000#32
  let main_v7 : FVec F S128x8 .f32 := broadcastInDim S128x8 ![] bcast_S_S128x8 main_cst_0
  let main_v8 : IVec S128x8 1 := cmpf .olt main_v6 main_v7
  let main_c_1 : IVec S_ 1 := constantI S_ 1 1#1
  let main_v9 : IVec S_ 1 := (fun x v => Host.reduce IntOp.andi x v reducesTo_S128x8_S_d0_1 h_S_) main_v8 main_c_1
  let main_v10 : IVec S_ 1 := andi main_v4 main_v9
  main_v10
-- ==== Pre_finite_router_ReferenceIdeal.lean ====
abbrev S256x128 : Shape := ⟨2, ![256, 128]⟩
abbrev S128x8 : Shape := ⟨2, ![128, 8]⟩
abbrev S256x1 : Shape := ⟨2, ![256, 1]⟩
abbrev S8x128x256 : Shape := ⟨3, ![8, 128, 256]⟩
abbrev S128x256 : Shape := ⟨2, ![128, 256]⟩
abbrev S_ : Shape := ⟨0, ![]⟩

class Facts : Prop where
  bitsLt_bf16_f32 : FTy.bits .bf16 < FTy.bits .f32
  bcast_S_S256x128 : S_.BroadcastsInDim S256x128 (![] : Fin 0 → Fin S256x128.rank)
  reducesTo_S256x128_S_d0_1 : S256x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_

variable [Facts]

def fn {F : FTy → Type} [FloatOps F] (main_arg0 : FVec F S256x128 .bf16) (main_arg1 : FVec F S128x8 .bf16) (main_arg2 : IVec S256x1 32) (main_arg3 : FVec F S8x128x256 .bf16) (main_arg4 : FVec F S128x256 .bf16) : IVec S_ 1 :=
  let main_v0 : FVec F S256x128 .f32 := (extf .f32 · bitsLt_bf16_f32) main_arg0
  let main_v1 : FVec F S256x128 .f32 := Host.absf main_v0
  let main_cst : FVec F S_ .f32 := constant S_ .f32 0x7F800000#32
  let main_v2 : FVec F S256x128 .f32 := broadcastInDim S256x128 ![] bcast_S_S256x128 main_cst
  let main_v3 : IVec S256x128 1 := cmpf .olt main_v1 main_v2
  let main_c : IVec S_ 1 := constantI S_ 1 1#1
  let main_v4 : IVec S_ 1 := (fun x v => Host.reduce IntOp.andi x v reducesTo_S256x128_S_d0_1 h_S_) main_v3 main_c
  let main_v5 : FVec F S128x8 .f32 := (extf .f32 · bitsLt_bf16_f32) main_arg1
  let main_v6 : FVec F S128x8 .f32 := Host.absf main_v5
  let main_cst_0 : FVec F S_ .f32 := constant S_ .f32 0x7F800000#32
  let main_v7 : FVec F S128x8 .f32 := broadcastInDim S128x8 ![] bcast_S_S128x8 main_cst_0
  let main_v8 : IVec S128x8 1 := cmpf .olt main_v6 main_v7
  let main_c_1 : IVec S_ 1 := constantI S_ 1 1#1
  let main_v9 : IVec S_ 1 := (fun x v => Host.reduce IntOp.andi x v reducesTo_S128x8_S_d0_1 h_S_) main_v8 main_c_1
  let main_v10 : IVec S_ 1 := andi main_v4 main_v9
  main_v10
-- ==== Kernel.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S4x2x128x256 : Shape := ⟨4, ![4, 2, 128, 256]⟩
abbrev S3 : Shape := ⟨1, ![3]⟩
abbrev S4 : Shape := ⟨1, ![4]⟩
abbrev S_ : Shape := ⟨0, ![]⟩
abbrev S1 : Shape := ⟨1, ![1]⟩
abbrev S1x2x128x256 : Shape := ⟨4, ![1, 2, 128, 256]⟩
abbrev S256x8 : Shape := ⟨2, ![256, 8]⟩
abbrev S256 : Shape := ⟨1, ![256]⟩
abbrev S1x128x256 : Shape := ⟨3, ![1, 128, 256]⟩
abbrev S1x1x128x256 : Shape := ⟨4, ![1, 1, 128, 256]⟩

abbrev nBuf : Space → Nat
  | .hbm => 6
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x1, .i32⟩
  | .hbm, ⟨3, _⟩ => ⟨S2x128x256, .bf16⟩
  | .hbm, ⟨4, _⟩ => ⟨S128x256, .bf16⟩
  | .hbm, ⟨5, _⟩ => ⟨S256x256, .bf16⟩
  | .local _ .vmem, ⟨0, _⟩ => ⟨S256x128, .bf16⟩
  | .local _ .vmem, ⟨1, _⟩ => ⟨S128x8, .bf16⟩
  | .local _ .vmem, ⟨2, _⟩ => ⟨S256x1, .i32⟩
  | .local _ .vmem, ⟨3, _⟩ => ⟨S2x128x256, .bf16⟩
  | .local _ .vmem, ⟨4, _⟩ => ⟨S128x256, .bf16⟩
  | .local _ .vmem, ⟨5, _⟩ => ⟨S256x256, .bf16⟩
  | .local _ .vmem, ⟨6, _⟩ => ⟨S4x2x128x256, .fp8e4m3⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 5 13 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 4

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v39 : BitVec 32 := Scalar.muli v13 c1_i32_21
  let v40 : BitVec 32 := Scalar.addi c0_i32_22 v39
  v40.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_24 : BitVec 32 := 1#32
  let v43 : BitVec 32 := Scalar.muli v24 c1_i32_24
  let v44 : BitVec 32 := Scalar.addi c0_i32_25 v43
  v44.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_27 : BitVec 32 := 1#32
  let v47 : BitVec 32 := Scalar.muli v35 c1_i32_27
  let v48 : BitVec 32 := Scalar.addi c0_i32_28 v47
  v48.toNat
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : Index := Scalar.indexCast v2
  let c0_31 : Index := 0#32
  let c0_32 : Index := 0#32
  let c0_33 : Index := 0#32
  ![v54.toNat, 0, 0, 0]
def k0_off3 (d0 : Dev nD) (c1_i32_0 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_39 : BitVec 32 := 0#32
  let c0_i32_40 : BitVec 32 := 0#32
  let c0_i32_41 : BitVec 32 := 0#32
  ![v2.toNat, 0, 0, 0]
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_37 : BitVec 32 := 1#32
  let v60 : BitVec 32 := Scalar.muli v13 c1_i32_37
  let v61 : BitVec 32 := Scalar.addi c0_i32_38 v60
  v61.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_48 : BitVec 32 := 1#32
  let v72 : BitVec 32 := Scalar.muli v24 c1_i32_48
  let v73 : BitVec 32 := Scalar.addi c0_i32_49 v72
  v73.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_59 : BitVec 32 := 1#32
  let v84 : BitVec 32 := Scalar.muli v35 c1_i32_59
  let v85 : BitVec 32 := Scalar.addi c0_i32_60 v84
  v85.toNat
def k0_off5 (d0 : Dev nD) (c1_i32_0 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_132 : BitVec 32 := 0#32
  let c0_i32_133 : BitVec 32 := 0#32
  let c0_i32_134 : BitVec 32 := 0#32
  ![v13.toNat, 0, 0, 0]
def k0_off6 (d0 : Dev nD) (c1_i32_0 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v241 : Index := Scalar.indexCast v13
  let c0_138 : Index := 0#32
  let c0_139 : Index := 0#32
  let c0_140 : Index := 0#32
  ![v241.toNat, 0, 0, 0]
def k0_off7 (d0 : Dev nD) (c1_i32_0 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v247 : Index := Scalar.indexCast v13
  let c1_142 : Index := 1#32
  let c0_143 : Index := 0#32
  let c0_144 : Index := 0#32
  ![v247.toNat, 1, 0, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x8 : Shape := ⟨2, ![128, 8]⟩
abbrev S256x1 : Shape := ⟨2, ![256, 1]⟩
abbrev S8x128x256 : Shape := ⟨3, ![8, 128, 256]⟩
abbrev S128x256 : Shape := ⟨2, ![128, 256]⟩
abbrev S256x8 : Shape := ⟨2, ![256, 8]⟩
abbrev S_ : Shape := ⟨0, ![]⟩
abbrev S256 : Shape := ⟨1, ![256]⟩
abbrev S256x256 : Shape := ⟨2, ![256, 256]⟩
abbrev S256x2 : Shape := ⟨2, ![256, 2]⟩
abbrev S256x128x256 : Shape := ⟨3, ![256, 128, 256]⟩

abbrev nBuf : Space → Nat
  | .hbm => 68
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x1, .i32⟩
  | .hbm, ⟨3, _⟩ => ⟨S8x128x256, .bf16⟩
  | .hbm, ⟨4, _⟩ => ⟨S128x256, .bf16⟩
  | .hbm, ⟨5, _⟩ => ⟨S256x128, .f32⟩
  | .hbm, ⟨6, _⟩ => ⟨S128x8, .f32⟩
  | .hbm, ⟨7, _⟩ => ⟨S256x8, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S256x8, .f32⟩
  | .hbm, ⟨12, _⟩ => ⟨S256x8, .f32⟩
  | .hbm, ⟨13, _⟩ => ⟨S256x8, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x8, .f32⟩
  | .hbm, ⟨18, _⟩ => ⟨S256x8, .f32⟩
  | .hbm, ⟨19, _⟩ => ⟨S128x256, .f32⟩
  | .hbm, ⟨20, _⟩ => ⟨S256x256, .f32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S256, .i1⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S_, .i32⟩
  | .hbm, ⟨38, _⟩ => ⟨S256, .i32⟩
  | .hbm, ⟨39, _⟩ => ⟨S256, .i1⟩
  | .hbm, ⟨40, _⟩ => ⟨S_, .i32⟩
  | .hbm, ⟨41, _⟩ => ⟨S256, .i32⟩
  | .hbm, ⟨42, _⟩ => ⟨S256, .i32⟩
  | .hbm, ⟨43, _⟩ => ⟨S256, .i32⟩
  | .hbm, ⟨44, _⟩ => ⟨S256x1, .i32⟩
  | .hbm, ⟨45, _⟩ => ⟨S256x1, .i32⟩
  | .hbm, ⟨46, _⟩ => ⟨S256x2, .i32⟩
  | .hbm, ⟨47, _⟩ => ⟨S256, .f32⟩
  | .hbm, ⟨48, _⟩ => ⟨S_, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S8x128x256, .f32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S256x1, .i32⟩
  | .hbm, ⟨61, _⟩ => ⟨S256x128x256, .f32⟩
  | .hbm, ⟨62, _⟩ => ⟨S256x256, .f32⟩
  | .hbm, ⟨63, _⟩ => ⟨S256x1, .f32⟩
  | .hbm, ⟨64, _⟩ => ⟨S256x256, .f32⟩
  | .hbm, ⟨65, _⟩ => ⟨S256x256, .f32⟩
  | .hbm, ⟨66, _⟩ => ⟨S256x256, .f32⟩
  | .hbm, ⟨67, _⟩ => ⟨S256x256, .bf16⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.KernelIdeal.Protocol.lean ====
/-
# The exchange of the expert weights: peers, slots, cells, schedule, levels

Four devices each hold two of the eight experts. Every device quantizes its two experts into the slot of its own number
of a four-slot buffer and copies that slot into the same slot of the three others. Before a device copies into a peer
it waits for the peer's entry signal, which hands it the slot it writes there.

The cells of one device: the barrier (signalled by the device itself), one entry cell and one receive cell per other
device, and three send cells. Each has one duty, at round 0.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring.Trips
public import Idealize.ShloMosaic.Lib.ValueIdxCore
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Ring

variable {F : FTy → Type} [FloatOps F]

/-! ## The resource algebra: the staging pipeline's rounds and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ)

/-! ## Peers -/

/-- The `k`-th peer of device `c`: `k + 1` places on around the ring of four. -/
def peer (k : Fin 3) (c : Dev nD) : Dev nD := ⟨(c.val + 1 + k.val) % 4, Nat.mod_lt _ (by decide)⟩
/-- The shift undone by `k`'s. -/
def back (k : Fin 3) : Fin 3 := ⟨2 - k.val, by omega⟩

theorem peer_back : ∀ (k : Fin 3) (c : Dev nD), peer k (peer (back k) c) = c := by decide
theorem back_peer : ∀ (k : Fin 3) (c : Dev nD), peer (back k) (peer k c) = c := by decide
theorem peer_ne : ∀ (k : Fin 3) (c : Dev nD), peer k c ≠ c := by decide

def shift (k : Fin 3) : Dev nD ≃ Dev nD := ⟨peer k, peer (back k), back_peer k, peer_back k⟩

theorem dev1_eq (c : Dev nD) : (⟨k0_dev1 c, k0_dev1_lt c⟩ : Dev nD) = peer 0 c := by
  revert c; decide +kernel
theorem dev2_eq (c : Dev nD) : (⟨k0_dev2 c, k0_dev2_lt c⟩ : Dev nD) = peer 1 c := by
  revert c; decide +kernel
theorem dev3_eq (c : Dev nD) : (⟨k0_dev3 c, k0_dev3_lt c⟩ : Dev nD) = peer 2 c := by
  revert c; decide +kernel
theorem dev4_eq (c : Dev nD) : (⟨k0_dev4 c, k0_dev4_lt c⟩ : Dev nD) = peer 0 c := by
  revert c; decide +kernel
theorem dev5_eq (c : Dev nD) : (⟨k0_dev5 c, k0_dev5_lt c⟩ : Dev nD) = peer 1 c := by
  revert c; decide +kernel
theorem dev6_eq (c : Dev nD) : (⟨k0_dev6 c, k0_dev6_lt c⟩ : Dev nD) = peer 2 c := by
  revert c; decide +kernel

/-- The shift as the program's word. -/
abbrev kw (k : Fin 3) : BitVec 32 := BitVec.ofNat 32 (k.val + 1)

theorem off3_eq : ∀ (k : Fin 3) (c : Dev nD), k0_off3 c (kw k) = ![(peer k c).val] := by decide +kernel
theorem off5_eq : ∀ (k : Fin 3) (c : Dev nD), k0_off5 c (kw k) = ![(peer k c).val, 0, 0, 0] := by decide +kernel
theorem off6_eq : ∀ (k : Fin 3) (c : Dev nD), k0_off6 c (kw k) = ![(peer k c).val, 0, 0, 0] := by decide +kernel
theorem off7_eq : ∀ (k : Fin 3) (c : Dev nD), k0_off7 c (kw k) = ![(peer k c).val, 1, 0, 0] := by decide +kernel
theorem off2_eq : ∀ c : Dev nD, k0_off2 c = ![c.val, 0, 0, 0] := by decide +kernel

/-! ## Semaphores and cells -/

abbrev barS : Sem sig := (SemArray.scalar (sig.barrier 0 rfl) : Sems sig S_).sem
/-- The entry semaphore a peer numbered `j` signals. -/
def entryS (j : Dev nD) : Sem sig := ⟨j.val, Nat.lt_of_lt_of_le j.isLt (by decide)⟩
/-- The receive semaphore of the copy from device `j`. -/
def recvS (j : Dev nD) : DmaSem sig := ⟨9 + j.val, Nat.lt_of_lt_of_le (Nat.add_lt_add_left j.isLt 9) (by decide)⟩
/-- The send semaphore of the `k`-th copy. -/
def sendS (k : Fin 3) : DmaSem sig := ⟨6 + k.val, Nat.lt_of_lt_of_le (Nat.add_lt_add_left k.isLt 6) (by decide)⟩

theorem entry_at {off : Fin 1 → Nat} (j : Dev nD) (hoff : off = ![j.val]) (inb : ∀ a, off a + S1.size a ≤ S4.size a) :
    (((cc0_scratch3 : Sems sig S4).slice (Rect.unit (s := S4) off S1.size inb)).squeeze S_ squeezes_S1_S_).sem = entryS j := by
  subst hoff; revert inb; revert j; decide
theorem recv_at {off : Fin 1 → Nat} (j : Dev nD) (hoff : off = ![j.val]) (inb : ∀ a, off a + S1.size a ≤ S4.size a) :
    (((cc0_scratch2 : DmaSems sig S4).slice (Rect.unit (s := S4) off S1.size inb)).squeeze S_ squeezes_S1_S_).sem = recvS j := by
  subst hoff; revert inb; revert j; decide
theorem send_at {off : Fin 1 → Nat} (k : Fin 3) (hoff : off = ![k.val]) (inb : ∀ a, off a + S1.size a ≤ S3.size a) :
    (((cc0_scratch1 : DmaSems sig S3).slice (Rect.unit (s := S3) off S1.size inb)).squeeze S_ squeezes_S1_S_).sem = sendS k := by
  subst hoff; revert inb; revert k; decide

abbrev barCell (c : Dev nD) : GSem nD τ sig := ((c : Thread nD τ), .reg barS)
abbrev entryCell (c j : Dev nD) : GSem nD τ sig := ((c : Thread nD τ), .reg (entryS j))
abbrev recvCell (c j : Dev nD) : GSem nD τ sig := ((c : Thread nD τ), .dma (recvS j))
abbrev sendCell (c : Dev nD) (k : Fin 3) : GSem nD τ sig := ((c : Thread nD τ), .dma (sendS k))

/-! ## The exchange buffer and its slots -/

abbrev scrM : Memref sig .tc .vmem S4x2x128x256 .fp8e4m3 := Memref.whole cc0_scratch0
/-- Slot `c`, as the copies name it. -/
abbrev slotM (c : Dev nD) : Memref sig .tc .vmem S2x128x256 .fp8e4m3 :=
  ((scrM : Memref sig .tc .vmem S4x2x128x256 .fp8e4m3).slice
    (Rect.unit (s := S4x2x128x256) (k0_off4 c) S1x2x128x256.size (k0_off4_inb c)) (fun _ => rfl)).squeeze
    S2x128x256 squeezes_S1x2x128x256_S2x128x256

/-- The elements of slot `j`. -/
def slotSet (j : Dev nD) : Finset S4x2x128x256.Idx := Finset.univ.filter fun i => (i 0).val = j.val

theorem mem_slotSet {j : Dev nD} {i : S4x2x128x256.Idx} : i ∈ slotSet j ↔ (i 0).val = j.val := by
  unfold slotSet; rw [Finset.mem_filter]; exact ⟨fun h => h.2, fun h => ⟨Finset.mem_univ _, h⟩⟩

theorem slot_disjoint (j j' : Dev nD) (h : j ≠ j') : Disjoint (slotSet j) (slotSet j') :=
  Finset.disjoint_left.2 fun i hi hi' => h (Fin.ext ((mem_slotSet.1 hi).symm.trans (mem_slotSet.1 hi')))

theorem slots_univ : (Finset.univ : Finset (Dev nD)).biUnion slotSet = Finset.univ :=
  Finset.ext fun i => ⟨fun _ => Finset.mem_univ _, fun _ => Finset.mem_biUnion.2
    ⟨⟨(i 0).val, (i 0).isLt⟩, Finset.mem_univ _, mem_slotSet.2 rfl⟩⟩

/-- A whole-slot rectangle's elements. -/
theorem slotRect_set {off : Fin 4 → Nat} (j : Dev nD) (hoff : off = ![j.val, 0, 0, 0])
    (inb : ∀ a, off a + S1x2x128x256.size a ≤ S4x2x128x256.size a) :
    (Rect.unit (s := S4x2x128x256) off S1x2x128x256.size inb).set = slotSet j := by
  subst hoff
  ext i
  rw [Rect.mem_set_unit, mem_slotSet]
  constructor
  · intro h
    have h0 := h 0
    simp only [Matrix.cons_val_zero] at h0
    have : S1x2x128x256.size 0 = 1 := rfl
    omega
  · intro h a
    have ha := (i a).isLt
    match a with
    | ⟨0, _⟩ => exact ⟨h.ge, by show (i 0).val < j.val + 1; omega⟩
    | ⟨1, _⟩ => exact ⟨Nat.zero_le _, by show (i 1).val < 0 + 2; rw [Nat.zero_add]; exact ha⟩
    | ⟨2, _⟩ => exact ⟨Nat.zero_le _, by show (i 2).val < 0 + 128; rw [Nat.zero_add]; exact ha⟩
    | ⟨3, _⟩ => exact ⟨Nat.zero_le _, by show (i 3).val < 0 + 256; rw [Nat.zero_add]; exact ha⟩

theorem slotM_set (c : Dev nD) : (slotM c).view.set = slotSet c := by
  show (((View.whole cc0_scratch0).slice (Rect.unit (s := S4x2x128x256) (k0_off4 c) S1x2x128x256.size (k0_off4_inb c))).reshape S2x128x256 _).set = _
  rw [View.set_reshape, View.set_slice_whole]
  exact slotRect_set c (k0_off4_eq c) _

abbrev N : ℕ := (slotM 0).view.dmaCredit
theorem N_pos : 0 < N := View.dmaCredit_pos _ (by decide)

/-! ## Contents -/

/-- Device `c`'s two experts, as staged. -/
def own (c : Dev nD) : Vec F S2x128x256 .bf16 := iblk m c (3 : Fin 6) t0_0

/-- An index of the buffer, read within its slot. -/
def inSlot (i : S4x2x128x256.Idx) : S1x2x128x256.Idx := ix4 (0 : Fin 1) (i 1) (i 2) (i 3)

/-- The contents all four buffers end with: slot `j` holds device `j`'s experts, quantized. -/
def allW : S4x2x128x256.Idx → Elt F .fp8e4m3 := fun i => k0_pay1 (own m ⟨(i 0).val, (i 0).isLt⟩) (inSlot i)

/-- Expert `e` of slot `d`, as a load reads it. -/
def slab (d : Dev nD) (e : Fin 2) : Vec F S1x1x128x256 .fp8e4m3 := fun j => allW m (ix4 d e (j 2) (j 3))

/-- Slot `j` of device `d`'s buffer, holding `f`. -/
def slotPts (q : PosShare TreeShare) (d j : Dev nD) (f : S4x2x128x256.Idx → Elt F .fp8e4m3) : sProp 𝕄 :=
  (scrM : Memref sig .tc .vmem S4x2x128x256 .fp8e4m3).view.loc (d : Thread nD τ) ↦[slotSet j]{q} f

omit [FloatOps F] in
instance slotPts_storable (q : PosShare TreeShare) (d j : Dev nD) (f) : BI.Storable (upEmb : UEmb _ 𝕄) (slotPts (F := F) q d j f) := by
  unfold slotPts; infer_instance

/-! ## The schedule -/

/-- The cells that have a duty: the barrier, the other devices' entry and receive cells, the send cells. -/
def used (g : GSem nD τ sig) : Prop :=
  g.1.2 = .tc ∧ match g.2 with
    | .reg s => s.val ≠ g.1.1.val
    | .dma q => 6 ≤ q.val ∧ q.val ≠ 9 + g.1.1.val

instance (g : GSem nD τ sig) : Decidable (used g) := by
  unfold used
  obtain ⟨t, s | q⟩ := g <;> exact inferInstance

/-- What the duty of device `d`'s cell on a semaphore pays: an entry cell `j`, slot `d` of device `j`'s buffer; a receive cell
    `j`, slot `j` of the device's own buffer, filled; a send cell, the share of the device's own slot the copy read. -/
def pay (d : Dev nD) : SemLoc sig → sProp 𝕄
  | .reg s => if h : s.val < 4 then iprop(∃ f, slotPts (F := F) fullShare ⟨s.val, h⟩ d f) else iprop(emp)
  | .dma q => if 9 ≤ q.val then slotPts fullShare d ⟨(q.val - 9) % 4, Nat.mod_lt _ (by decide)⟩ (allW m)
      else slotPts (shares3 fullShare ⟨(q.val - 6) % 3, Nat.mod_lt _ (by decide)⟩) d d (allW m)

instance pay_storable (d : Dev nD) (s : SemLoc sig) : BI.Storable (upEmb : UEmb _ 𝕄) (pay (F := F) m d s) := by
  unfold pay
  split <;> split <;> infer_instance

/-- A duty's units. -/
def amt : SemLoc sig → ℕ
  | .reg _ => 1
  | .dma _ => N

def rd : Rounds.Schedule (GSem nD τ sig) Unit 𝕄 where
  duties g r := if r = 0 ∧ used g then {()} else ∅
  unitless _ := False
  amount g _ _ := amt g.2
  payload g _ _ := pay m g.1.1 g.2
  amount_pos g _ _ _ := by
    obtain ⟨t, s | q⟩ := g
    · exact Nat.one_pos
    · exact N_pos

instance rd_payload_storable (g : GSem nD τ sig) (r : ℕ) (d : Unit) :
    BI.Storable (upEmb : UEmb _ 𝕄) ((rd (F := F) m).payload g r d) := pay_storable m g.1.1 g.2

section Tables
variable {g : GSem nD τ sig}

theorem duties_used (h : used g) : (rd (F := F) m).duties g 0 = {()} := if_pos ⟨rfl, h⟩
theorem mem_duties (h : used g) : () ∈ (rd (F := F) m).duties g 0 := by rw [duties_used m h]; exact Finset.mem_singleton_self _
theorem duties_later (g : GSem nD τ sig) : ∀ r, 1 ≤ r → (rd (F := F) m).duties g r = ∅ :=
  fun r hr => if_neg fun h => by omega
theorem duties_unused (h : ¬ used g) : ∀ r, 0 ≤ r → (rd (F := F) m).duties g r = ∅ := fun r _ => if_neg fun h' => h h'.2
theorem expect_used (h : used g) : (rd (F := F) m).expect g 0 = amt g.2 := by
  unfold Schedule.expect Schedule.amountOf; rw [duties_used m h, Finset.sum_singleton]; rfl
theorem rest_used (h : used g) : bigSep ((rd (F := F) m).duties g 0 \ ∅) (fun d => (rd (F := F) m).payload g 0 d) = pay m g.1.1 g.2 := by
  rw [Finset.sdiff_empty, duties_used m h, bigSep_singleton]; rfl

end Tables

theorem used_bar (c : Dev nD) : used (barCell c) := by revert c; decide
theorem used_entry {c j : Dev nD} (h : j ≠ c) : used (entryCell c j) := ⟨rfl, fun h' => h (Fin.ext h')⟩
theorem used_recv {c j : Dev nD} (h : j ≠ c) : used (recvCell c j) :=
  ⟨rfl, Nat.le_trans (by decide) (Nat.le_add_right 9 _), fun h' => h (Fin.ext (Nat.add_left_cancel h'))⟩
theorem used_send (c : Dev nD) (k : Fin 3) : used (sendCell c k) := by revert c k; decide
theorem not_used_entry (c : Dev nD) : ¬ used (entryCell c c) := fun h => h.2 rfl
theorem not_used_recv (c : Dev nD) : ¬ used (recvCell c c) := fun h => h.2.2 rfl

theorem amount_reg (t : Thread nD τ) (s : Sem sig) : (rd (F := F) m).amount (t, .reg s) 0 () = 1 := rfl

theorem pay_bar (c : Dev nD) : pay (F := F) m c (.reg barS) = iprop(emp) := by
  unfold pay; exact dif_neg (show ¬ (barS : Sem sig).val < 4 by decide)
theorem pay_entry (c j : Dev nD) : pay (F := F) m c (.reg (entryS j)) = iprop(∃ f, slotPts (F := F) fullShare j c f) := dif_pos j.isLt
theorem pay_recv (c j : Dev nD) : pay m c (.dma (recvS j)) = slotPts fullShare c j (allW m) := by
  have hj : (⟨((recvS j).val - 9) % 4, Nat.mod_lt _ (by decide)⟩ : Dev nD) = j := by revert j; decide
  refine (if_pos (show 9 ≤ (recvS j).val from Nat.le_add_right 9 _)).trans ?_
  rw [hj]
theorem pay_send (c : Dev nD) (k : Fin 3) : pay m c (.dma (sendS k)) = slotPts (shares3 fullShare k) c c (allW m) := by
  have hk : (⟨((sendS k).val - 6) % 3, Nat.mod_lt _ (by decide)⟩ : Fin 3) = k := by revert k; decide
  have hlt : ¬ 9 ≤ (sendS k).val := by revert k; decide
  refine (if_neg hlt).trans ?_
  rw [hk]

theorem payload_bar (c : Dev nD) : (rd (F := F) m).payload (barCell c) 0 () = iprop(emp) := pay_bar m c
theorem payload_entry (c j : Dev nD) : (rd (F := F) m).payload (entryCell c j) 0 () = iprop(∃ f, slotPts (F := F) fullShare j c f) := pay_entry m c j

/-! ## What a device owes, and the order of its waits -/

/-- Owed to the `k`-th peer: its entry signal; the copy into it. -/
def eT (k : Fin 3) (c : Dev nD) : CellTallies nD τ sig Unit := tallyAt (entryCell (peer k c) c) () 1
def rT (k : Fin 3) (c : Dev nD) : CellTallies nD τ sig Unit := tallyAt (recvCell (peer k c) c) () N
def bT (c : Dev nD) : CellTallies nD τ sig Unit := tallyAt (barCell c) () 1

/-- What is left owed before the third copy, the second, the first; before the entry signals, last to first; at launch. -/
def R2 (c : Dev nD) : CellTallies nD τ sig Unit := 0 + rT 2 c
def R1 (c : Dev nD) : CellTallies nD τ sig Unit := R2 c + rT 1 c
def R0 (c : Dev nD) : CellTallies nD τ sig Unit := R1 c + rT 0 c
def E2 (c : Dev nD) : CellTallies nD τ sig Unit := R0 c + eT 2 c
def E1 (c : Dev nD) : CellTallies nD τ sig Unit := E2 c + eT 1 c
def E0 (c : Dev nD) : CellTallies nD τ sig Unit := E1 c + eT 0 c
def O₀ (c : Dev nD) : CellTallies nD τ sig Unit := E0 c + bT c

def L (g : GSem nD τ sig) : Finset Unit := if g.1.2 = .tc then {()} else ∅
/-- The barrier at 1, entry cells at 2, receive cells at 3, send and staging cells at 0. -/
def lv (g : GSem nD τ sig) (_ : Unit) : ℕ :=
  match g.2 with
  | .reg s => if s.val = 4 then 1 else 2
  | .dma q => if 9 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed sits on a device's cell of level above `ℓ`. -/
def Above (ℓ : ℕ) (O : CellTallies nD τ sig Unit) : Prop := ∀ g u, 0 < O g u → g.1.2 = .tc ∧ ℓ < lv g u

theorem above_zero (ℓ : ℕ) : Above ℓ 0 := fun _ _ h => absurd h (Nat.lt_irrefl 0)
theorem above_tally {ℓ : ℕ} {g : GSem nD τ sig} {n : ℕ} (hg : g.1.2 = .tc) (hl : ℓ < lv g ()) : Above ℓ (tallyAt g () n) := by
  intro g' u h
  rw [tallyAt_apply] at h
  by_cases hh : g' = g ∧ u = ()
  · rw [hh.1]; exact ⟨hg, hl⟩
  · rw [if_neg hh] at h; exact absurd h (Nat.lt_irrefl 0)
theorem above_add {ℓ : ℕ} {O O' : CellTallies nD τ sig Unit} (h : Above ℓ O) (h' : Above ℓ O') : Above ℓ (O + O') := by
  intro g u hp
  rw [Pi.add_apply, Finsupp.add_apply] at hp
  rcases Nat.eq_zero_or_pos (O g u) with h0 | h0
  · rw [h0, Nat.zero_add] at hp; exact h' g u hp
  · exact h g u h0

theorem above_rT {ℓ : ℕ} (hℓ : ℓ < 3) (k : Fin 3) (c : Dev nD) : Above ℓ (rT k c) :=
  above_tally rfl (by show ℓ < if 9 ≤ 9 + c.val then 3 else 0; rw [if_pos (Nat.le_add_right 9 _)]; exact hℓ)
theorem above_eT {ℓ : ℕ} (hℓ : ℓ < 2) (k : Fin 3) (c : Dev nD) : Above ℓ (eT k c) :=
  above_tally rfl (by
    have hc : c.val < 4 := c.isLt
    show ℓ < if c.val = 4 then 1 else 2; rw [if_neg (by omega)]; exact hℓ)
theorem above_R2 {ℓ : ℕ} (hℓ : ℓ < 3) (c : Dev nD) : Above ℓ (R2 c) := above_add (above_zero ℓ) (above_rT hℓ 2 c)
theorem above_R1 {ℓ : ℕ} (hℓ : ℓ < 3) (c : Dev nD) : Above ℓ (R1 c) := above_add (above_R2 hℓ c) (above_rT hℓ 1 c)
theorem above_R0 {ℓ : ℕ} (hℓ : ℓ < 3) (c : Dev nD) : Above ℓ (R0 c) := above_add (above_R1 hℓ c) (above_rT hℓ 0 c)
theorem above_E0 {ℓ : ℕ} (hℓ : ℓ < 2) (c : Dev nD) : Above ℓ (E0 c) :=
  above_add (above_add (above_add (above_R0 (Nat.lt_succ_of_lt hℓ) c) (above_eT hℓ 2 c)) (above_eT hℓ 1 c)) (above_eT hℓ 0 c)
theorem above_O₀ (c : Dev nD) : Above 0 (O₀ c) :=
  above_add (above_E0 (by decide) c) (above_tally rfl (by decide +revert))

omit [FloatOps F] in
/-- A device may wait on its cell at a level everything it owes is above. -/
theorem mayWait_of_above (c : Dev nD) (sm : SemLoc sig) {O : CellTallies nD τ sig Unit}
    (h : Above (lv ((c : Thread nD τ), sm) ()) O) : (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

theorem lv_bar (c : Dev nD) : lv (barCell c) () = 1 := rfl
theorem lv_entry (c j : Dev nD) : lv (entryCell c j) () = 2 :=
  if_neg (by show ¬ j.val = 4; have := j.isLt; have : nD = 4 := rfl; omega)

end Cert.KernelIdeal.Moe

end
-- ==== Proof.KernelIdeal.Steps.lean ====
/-
# One rule per effect of the exchange

Each rule is stated with the device, the semaphore or the offset as a variable and an equation for it, as the program
computes them.
-/
module

public import proofs.«01_k».proof.Proof.KernelIdeal.Protocol

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Ring

variable {F : FTy → Type} [FloatOps F]

local notation "𝕄" => MT nD τ sig Unit (Elt F) ℕ UU ℕ

variable (m : (ℓ : Loc nD τ sig) → Buf (Elt F) ℓ)

/-! ## The cells' records -/

/-- Whether a device's semaphore carries the exchange: all but the staging pipeline's. -/
def isRing : SemLoc sig → Bool
  | .reg _ => true
  | .dma q => decide (6 ≤ q.val)
/-- Those semaphores. -/
def ringSems : Finset (SemLoc sig) := Finset.univ.filter fun sm => isRing sm = true
/-- All the exchange's cells. -/
def ringCells : Finset (GSem nD τ sig) :=
  (Finset.univ ×ˢ ringSems).map ⟨fun p : Dev nD × SemLoc sig => ((p.1 : Thread nD τ), p.2),
    fun a b h => Prod.ext (congrArg (fun x : GSem nD τ sig => x.1.1) h) (congrArg (fun x : GSem nD τ sig => x.2) h)⟩

theorem mem_ringCells {c : Dev nD} {sm : SemLoc sig} (h : sm ∈ ringSems) : ((c : Thread nD τ), sm) ∈ ringCells :=
  Finset.mem_map.2 ⟨(c, sm), Finset.mem_product.2 ⟨Finset.mem_univ _, h⟩, rfl⟩

theorem mem_reg (q : Sem sig) : (SemLoc.reg q : SemLoc sig) ∈ ringSems := Finset.mem_filter.2 ⟨Finset.mem_univ _, rfl⟩
theorem mem_dma {q : DmaSem sig} (h : 6 ≤ q.val) : (SemLoc.dma q : SemLoc sig) ∈ ringSems :=
  Finset.mem_filter.2 ⟨Finset.mem_univ _, decide_eq_true h⟩
theorem mem_recv (j : Dev nD) : (SemLoc.dma (recvS j) : SemLoc sig) ∈ ringSems :=
  mem_dma (Nat.le_trans (by decide) (Nat.le_add_right 9 j.val))
theorem mem_send (k : Fin 3) : (SemLoc.dma (sendS k) : SemLoc sig) ∈ ringSems := mem_dma (Nat.le_add_right 6 k.val)

/-- Every cell's invariant, at the name it was allocated at, and that every cell has reached round 0. -/
def records (K : GSem nD τ sig → ℕ) : sProp 𝕄 :=
  bigSep ringCells fun g => iprop(cellInv ER (rd m) (K g) g ∗ reached ER g 0)

instance records_persistent (K : GSem nD τ sig → ℕ) : BI.Persistent (records (F := F) m K) := by unfold records; infer_instance

variable (K : GSem nD τ sig → ℕ)

theorem record_at {g : GSem nD τ sig} (h : g ∈ ringCells) :
    records (F := F) m K ⊢ iprop(cellInv ER (rd m) (K g) g ∗ reached ER g 0) := by
  exact bigSep_elim h

/-! ## Signals -/

/-- The signal to a device's own barrier cell. -/
theorem wp_signal_bar (c : Dev nD) {α : Type} {Q : α → sProp 𝕄} {k : PUnit → Prog (TpuEff nD τ sig (Elt F) Λ₀ .tc) α} (W : Waits sig Unit) :
    iprop(records m K ∗ owes (c : Thread nD τ) (O₀ c) W ∗ dutyTok ER (barCell c) 0 ())
      ⊢ iprop((owes (c : Thread nD τ) (E0 c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (c : Thread nD τ) barS (1#32).toInt) k) Q) := by
  iintro ⟨#HR, HO, Ht⟩
  ihave Hg := (record_at m K (mem_ringCells (c := c) (mem_reg barS))) $$ HR
  icases Hg with ⟨#HI, #Hr⟩
  iintro Hk
  iapply (Rounds.wp_signal 𝒱₀ ER (rd m) (c : Thread nD τ) none (dst := (c : Thread nD τ)) (κ := K (barCell c))
      (d := ()) (mem_duties m (used_bar c)) ((amount_reg m _ _).trans (by decide)) () (E0 c) rfl) $$ [HO Ht]
  · isplitr; · iexact HI
    isplitl [HO]; · iexact HO
    isplitl [Ht]; · iexact Ht
    isplitr; · rw [payload_bar]; iempintro
    iexact Hr
  iexact Hk

/-- The entry signal to the `i`-th peer, handing over the slot the peer will write. -/
theorem wp_signal_entry (c n : Dev nD) (i : Fin 3) (s : Sem sig) (hn : n = peer i c) (hs : s = entryS c)
    (O : CellTallies nD τ sig Unit) {α : Type} {Q : α → sProp 𝕄} {k : PUnit → Prog (TpuEff nD τ sig (Elt F) Λ₀ .tc) α}
    (f : S4x2x128x256.Idx → Elt F .fp8e4m3) (W : Waits sig Unit) :
    iprop(records m K ∗ owes (c : Thread nD τ) (O + eT i c) W ∗ dutyTok ER (entryCell (peer i c) c) 0 () ∗ slotPts fullShare c (peer i c) f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s (1#32).toInt) k) Q) := by
  subst hn hs
  iintro ⟨#HR, HO, Ht, Hs⟩
  ihave Hg := (record_at m K (mem_ringCells (c := peer i c) (mem_reg (entryS c)))) $$ HR
  icases Hg with ⟨#HI, #Hr⟩
  iintro Hk
  iapply (Rounds.wp_signal 𝒱₀ ER (rd m) (c : Thread nD τ) none (dst := (peer i c : Thread nD τ)) (κ := K (entryCell (peer i c) c))
      (d := ()) (mem_duties m (used_entry (peer_ne i c).symm)) ((amount_reg m _ _).trans (by decide)) () O rfl) $$ [HO Ht Hs]
  · isplitr; · iexact HI
    isplitl [HO]; · iexact HO
    isplitl [Ht]; · iexact Ht
    isplitl [Hs]
    · rw [payload_entry]; iexists f; iexact Hs
    iexact Hr
  iexact Hk

/-! ## Waits: the cell's one round is waited for whole, and the cell closes -/

theorem close_cell (c : Dev nD) {sm : SemLoc sig} (hm : sm ∈ ringSems) {R : ℕ} (hR : ∀ r, R ≤ r → (rd (F := F) m).duties ((c : Thread nD τ), sm) r = ∅) :
    iprop(records m K ∗ atPos ER ((c : Thread nD τ), sm) R ∅ 0) ⊢ |={Set.univ}=> semVal ((c : Thread nD τ), sm) 0 := by
  iintro ⟨#HR, Hat⟩
  ihave Hg := (record_at m K (mem_ringCells (c := c) hm)) $$ HR
  icases Hg with ⟨#HI, -⟩
  iapply (Rounds.cell_close ER (rd m) (Set.mem_univ (K ((c : Thread nD τ), sm))) (fun h => h) (R := R) hR)
  isplitr; · iexact HI
  iexact Hat

/-- A wait on a regular semaphore. -/
theorem wp_wait_reg (c : Dev nD) (s s' : Sem sig) (hs : s = s') (hm : (SemLoc.reg s' : SemLoc sig) ∈ ringSems)
    (hu : used ((c : Thread nD τ), .reg s')) (O : CellTallies nD τ sig Unit) (hO : Above (lv ((c : Thread nD τ), .reg s') ()) O)
    {α : Type} {Q : α → sProp 𝕄} {k : PUnit → Prog (TpuEff nD τ sig (Elt F) Λ₀ .tc) α} (W : Waits sig Unit) :
    iprop(records m K ∗ levAts L lv ∗ cred (tallyAt ((c : Thread nD τ), .reg s') () 1) ∗ owes (c : Thread nD τ) O W
        ∗ atPos ER ((c : Thread nD τ), .reg s') 0 ∅ 0)
      ⊢ iprop(((owes (c : Thread nD τ) O (insert (SemLoc.reg s', ()) W) ∗ semVal ((c : Thread nD τ), .reg s') 0 ∗ pay m c (.reg s'))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s (1#32).toNat) k) Q) := by
  subst hs
  iintro ⟨#HR, #Hlev, Hc, HO, Hat⟩
  ihave Hg := (record_at m K (mem_ringCells (c := c) hm)) $$ HR
  icases Hg with ⟨#HI, -⟩
  iintro Hk
  iapply (Rounds.wp_wait_rest_token 𝒱₀ ER (rd m) (c : Thread nD τ) none (κ := K ((c : Thread nD τ), .reg s))
      (wpE_semWait_eq 𝒱₀ (c : Thread nD τ) none Set.univ) (Set.mem_univ _) () (O := O) (W := W) (R := 0) (m := 0) (T := ∅)
      (by rw [expect_used m hu]; rfl)) $$ [Hc HO Hat]
  · isplitr; · iexact HI
    isplitl [Hc]; · iexact Hc
    isplitl [HO]; · iexact HO
    isplitr; · iapply (mayWait_of_above c (.reg s) hO); iexact Hlev
    iexact Hat
  iintro ⟨HO, Hat, -, Hpay⟩
  ihave Hp := (Entails.of_eq (rest_used m hu)) $$ Hpay
  imod (close_cell m K c hm (R := 0 + 1) (duties_later m _)) $$ [Hat] with Hz
  · isplitr; · iexact HR
    iexact Hat
  iapply Hk
  isplitl [HO]; · iexact HO
  isplitl [Hz]; · iexact Hz
  iexact Hp

/-- A wait for a copy's whole credit on a DMA semaphore. -/
theorem wp_wait_dma (c : Dev nD) (q q' : DmaSem sig) (hq : q = q') (hm : (SemLoc.dma q' : SemLoc sig) ∈ ringSems)
    (hu : used ((c : Thread nD τ), .dma q')) (O : CellTallies nD τ sig Unit) (hO : Above (lv ((c : Thread nD τ), .dma q') ()) O)
    (src dst : Memref sig .tc .vmem S2x128x256 .fp8e4m3) (hN : dst.view.dmaCredit = N)
    {hsrc : src.view.WordExact} {hdst : dst.view.WordExact}
    {α : Type} {Q : α → sProp 𝕄} {k : PUnit → Prog (TpuEff nD τ sig (Elt F) Λ₀ .tc) α} (W : Waits sig Unit) :
    iprop(records m K ∗ levAts L lv ∗ cred (tallyAt ((c : Thread nD τ), .dma q') () N) ∗ owes (c : Thread nD τ) O W
        ∗ atPos ER ((c : Thread nD τ), .dma q') 0 ∅ 0)
      ⊢ iprop(((owes (c : Thread nD τ) O (insert (SemLoc.dma q', ()) W) ∗ semVal ((c : Thread nD τ), .dma q') 0 ∗ pay m c (.dma q'))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  rw [← hN]
  iintro ⟨#HR, #Hlev, Hc, HO, Hat⟩
  ihave Hg := (record_at m K (mem_ringCells (c := c) hm)) $$ HR
  icases Hg with ⟨#HI, -⟩
  iintro Hk
  iapply (Rounds.wp_wait_rest_token 𝒱₀ ER (rd m) (c : Thread nD τ) none (κ := K ((c : Thread nD τ), .dma q))
      (wpE_waitDma2_eq 𝒱₀ (c : Thread nD τ) none Set.univ) (Set.mem_univ _) () (O := O) (W := W) (R := 0) (m := 0) (T := ∅)
      (by rw [Nat.zero_add, expect_used m hu]; exact hN)) $$ [Hc HO Hat]
  · isplitr; · iexact HI
    isplitl [Hc]; · iexact Hc
    isplitl [HO]; · iexact HO
    isplitr; · iapply (mayWait_of_above c (.dma q) hO); iexact Hlev
    iexact Hat
  iintro ⟨HO, Hat, -, Hpay⟩
  ihave Hp := (Entails.of_eq (rest_used m hu)) $$ Hpay
  imod (close_cell m K c hm (R := 0 + 1) (duties_later m _)) $$ [Hat] with Hz
  · isplitr; · iexact HR
    iexact Hat
  iapply Hk
  isplitl [HO]; · iexact HO
  isplitl [Hz]; · iexact Hz
  iexact Hp

/-! ## The copies -/

/-- A copy of slot `c` that lands, from a device whose slot `c` holds the common contents, leaves them. -/
theorem landed_eq (c : Dev nD) (f : S4x2x128x256.Idx → Elt F .fp8e4m3) {i : S4x2x128x256.Idx} (hi : i ∈ (slotM c).view.set) :
    (slotM c).view.write (Elt F) f ((slotM c).view.read (Elt F) (allW m)) Finset.univ i = allW m i := by
  unfold View.set at hi
  obtain ⟨x, -, rfl⟩ := Finset.mem_map.1 hi
  rw [View.write_emb_of_mem _ _ (Finset.mem_univ x), View.read_apply]
  rfl

theorem slotPts_eq (q : PosShare TreeShare) (d j : Dev nD) (f : S4x2x128x256.Idx → Elt F .fp8e4m3) :
    slotPts q d j f = ((slotM j).view.loc (d : Thread nD τ) ↦[(slotM j).view.set]{q} f : sProp 𝕄) := by
  rw [slotM_set]; rfl

theorem amount_dma (t : Thread nD τ) (q : DmaSem sig) : (rd (F := F) m).amount (t, .dma q) 0 () = N := rfl

theorem slotM_amount (c : Dev nD) (q : DmaSem sig) : (slotM c).view.amount (.dma q) = N := rfl

/-- The copy of the device's own slot into its `i`-th peer's buffer: the share `i` of the slot goes to the send cell, the peer's
    slot, filled, to the peer's receive cell. -/
theorem wp_send_slot (c n : Dev nD) (i : Fin 3) (hn : n = peer i c) (sS sR : DmaSem sig) (hS : sS = sendS i) (hR : sR = recvS c)
    (O : CellTallies nD τ sig Unit)
    {hsc : (slotM c : Memref sig (Dev.tc n : Thread nD τ).2.kind .vmem S2x128x256 .fp8e4m3).view.ref.isScScratch = false}
    {hsrc : (slotM c).view.WordExact} {hdst : (slotM c).view.WordExact}
    {hsem : DmaTarget.Typed .vmem (.dma sR) (.remote (Dev.tc n : Thread nD τ) (slotM c) (.dma sS) hsc)}
    {α : Type} {Q : α → sProp 𝕄} {k : PUnit → Prog (TpuEff nD τ sig (Elt F) Λ₀ .tc) α}
    (f : S4x2x128x256.Idx → Elt F .fp8e4m3) (W : Waits sig Unit) :
    iprop(records m K ∗ slotPts (shares3 fullShare i) c c (allW m) ∗ slotPts fullShare (peer i c) c f
        ∗ owes (c : Thread nD τ) (O + rT i c) W ∗ dutyTok ER (sendCell c i) 0 () ∗ dutyTok ER (recvCell (peer i c) c) 0 ())
      ⊢ iprop(((cred (tallyAt (sendCell c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma sS) hsc) (.dma sR) hsrc hdst hsem) k) Q) := by
  subst hn hS hR
  rw [slotPts_eq, slotPts_eq]
  iintro ⟨#HR, Hs, Hd, HO, HtS, HtR⟩
  ihave Hg := (record_at m K (mem_ringCells (c := c) (mem_send i))) $$ HR
  icases Hg with ⟨#HIS, #HrS⟩
  ihave Hg := (record_at m K (mem_ringCells (c := peer i c) (mem_recv c))) $$ HR
  icases Hg with ⟨#HIR, #HrR⟩
  iintro Hk
  iapply (Rounds.wp_send_pointsTo 𝒱₀ ER (rd m) (c : Thread nD τ) none (κ₁ := K (sendCell c i)) (κ₂ := K (recvCell (peer i c) c))
    (r₁ := 0) (r₂ := 0) (d₁ := ()) (d₂ := ()) (fd := f)
    (mem_duties m (used_send c i)) (mem_duties m (used_recv (peer_ne i c).symm))
    () () N (slotM_amount c _) (amount_dma m _ _) (amount_dma m _ _) O rfl (W := W)
    (by
      refine BI.Entails.trans ?_ (Entails.of_eq (pay_send m c i).symm)
      rw [slotPts_eq]
      exact BI.Entails.refl _)
    (by
      refine BI.Entails.trans ?_ (Entails.of_eq (pay_recv m (peer i c) c).symm)
      rw [slotPts_eq]
      exact Entails.of_eq (pointsTo_congr fun x hx => landed_eq m c f hx))) $$ [Hs Hd HO HtS HtR]
  · isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact HrR
  iexact Hk

/-! ## The loads and the store -/

theorem setOn_whole (S : Finset S4x2x128x256.Idx) : (scrM : Memref sig .tc .vmem S4x2x128x256 .fp8e4m3).view.setOn S = S :=
  Finset.map_refl

/-- The load of one expert of a filled slot. -/
theorem wp_load_slab (c p : Dev nD) (e : Fin 2) {off : Fin 4 → Nat} (hoff : off = ![p.val, e.val, 0, 0])
    (inb : ∀ a, off a + S1x1x128x256.size a ≤ S4x2x128x256.size a)
    {hl : (scrM : Memref sig .tc .vmem S4x2x128x256 .fp8e4m3).view.LoadsAt (Rect.unit (s := S4x2x128x256) off S1x1x128x256.size inb).toLoadRect}
    {α : Type} {Q : α → sProp 𝕄} {k : Vec F S1x1x128x256 .fp8e4m3 → Prog (TpuEff nD τ sig (Elt F) Λ₀ .tc) α} :
    slotPts fullShare c p (allW m)
      ⊢ iprop((slotPts fullShare c p (allW m) -∗ wp frame (wpE (defs₀ (F := F)) 𝒱₀ (c : Thread nD τ) none) Set.univ (k (slab m p e)) Q)
          -∗ wp frame (wpE (defs₀ (F := F)) 𝒱₀ (c : Thread nD τ) none) Set.univ
              (.op (.load scrM (Rect.unit (s := S4x2x128x256) off S1x1x128x256.size inb).toLoadRect hl) k) Q) := by
  subst hoff
  have hval : (scrM : Memref sig .tc .vmem S4x2x128x256 .fp8e4m3).view.readAt (Elt F)
      (Rect.unit (s := S4x2x128x256) ![p.val, e.val, 0, 0] S1x1x128x256.size inb).toLoadRect (allW m) = slab m p e := by
    funext j
    refine congrArg (allW m) (funext fun a => Fin.ext ?_)
    have h0 : (j 0).val < 1 := (j 0).isLt
    have h1 : (j 1).val < 1 := (j 1).isLt
    match a with
    | ⟨0, _⟩ => show p.val + 1 * (j 0).val = p.val; omega
    | ⟨1, _⟩ => show e.val + 1 * (j 1).val = e.val; omega
    | ⟨2, _⟩ => show 0 + 1 * (j 2).val = (j 2).val; omega
    | ⟨3, _⟩ => show 0 + 1 * (j 3).val = (j 3).val; omega
  have hsub : (scrM : Memref sig .tc .vmem S4x2x128x256 .fp8e4m3).view.setOn
      (Rect.unit (s := S4x2x128x256) ![p.val, e.val, 0, 0] S1x1x128x256.size inb).toLoadRect.set ⊆ slotSet p := by
    rw [setOn_whole]
    intro i hi
    have h0 := Rect.mem_set_unit.1 hi 0
    rw [mem_slotSet]
    have e1 : S1x1x128x256.size 0 = 1 := rfl
    simp only [Matrix.cons_val_zero] at h0
    omega
  have hw := wp_load (Γ := .empty) (Q := Q) (k := k) (defs := defs₀ (F := F)) 𝒱₀ (c : Thread nD τ) none Set.univ
    (m := (scrM : Memref sig .tc .vmem S4x2x128x256 .fp8e4m3)) (hl := hl) (S := slotSet p) (q := fullShare) (f := allW m) hsub
  rw [hval] at hw
  exact hw

/-- The load of a device's own slot before it is filled, whose value nothing reads. -/
theorem wp_load_own (c : Dev nD) (f : S4x2x128x256.Idx → Elt F .fp8e4m3)
    {hl : (scrM : Memref sig .tc .vmem S4x2x128x256 .fp8e4m3).view.LoadsAt (Rect.unit (s := S4x2x128x256) (k0_off2 c) S1x2x128x256.size (k0_off2_inb c)).toLoadRect}
    {α : Type} {Q : α → sProp 𝕄} {k : Prog (TpuEff nD τ sig (Elt F) Λ₀ .tc) α} :
    slotPts fullShare c c f
      ⊢ iprop((slotPts fullShare c c f -∗ wp frame (wpE (defs₀ (F := F)) 𝒱₀ (c : Thread nD τ) none) Set.univ k Q)
          -∗ wp frame (wpE (defs₀ (F := F)) 𝒱₀ (c : Thread nD τ) none) Set.univ
              (.op (.load scrM (Rect.unit (s := S4x2x128x256) (k0_off2 c) S1x2x128x256.size (k0_off2_inb c)).toLoadRect hl) fun _ => k) Q) := by
  exact wp_load (Q := Q) (k := fun _ => k) (defs := defs₀ (F := F)) 𝒱₀ (c : Thread nD τ) none Set.univ
    (m := (scrM : Memref sig .tc .vmem S4x2x128x256 .fp8e4m3)) (hl := hl) (S := slotSet c) (q := fullShare) (f := f)
    (by rw [setOn_whole]; exact (slotRect_set c (off2_eq c) _).le)

/-- The store of the device's quantized experts into its own slot. -/
theorem wp_store_own (c : Dev nD) (f : S4x2x128x256.Idx → Elt F .fp8e4m3)
    {hx : ((scrM : Memref sig .tc .vmem S4x2x128x256 .fp8e4m3).access (Rect.unit (s := S4x2x128x256) (k0_off2 c) S1x2x128x256.size (k0_off2_inb c))).Stores Finset.univ}
    {hm : (Finset.univ : Finset S1x2x128x256.Idx) = Finset.univ ∨ ∀ a, (Rect.unit (s := S4x2x128x256) (k0_off2 c) S1x2x128x256.size (k0_off2_inb c)).stride a = 1}
    {α : Type} {Q : α → sProp 𝕄} {k : PUnit → Prog (TpuEff nD τ sig (Elt F) Λ₀ .tc) α} :
    slotPts fullShare c c f
      ⊢ iprop((slotPts fullShare c c (allW m) -∗ wp frame (wpE (defs₀ (F := F)) 𝒱₀ (c : Thread nD τ) none) Set.univ (k ⟨⟩) Q)
          -∗ wp frame (wpE (defs₀ (F := F)) 𝒱₀ (c : Thread nD τ) none) Set.univ
              (.op (.store scrM (Rect.unit (s := S4x2x128x256) (k0_off2 c) S1x2x128x256.size (k0_off2_inb c)) (k0_pay1 (own m c)) Finset.univ hx hm) k) Q) := by
  have hset : ((scrM : Memref sig .tc .vmem S4x2x128x256 .fp8e4m3).access
      (Rect.unit (s := S4x2x128x256) (k0_off2 c) S1x2x128x256.size (k0_off2_inb c))).set = slotSet c := by
    show ((View.whole cc0_scratch0).slice (Rect.unit (s := S4x2x128x256) (k0_off2 c) S1x2x128x256.size (k0_off2_inb c))).set = _
    rw [View.set_slice_whole, slotRect_set c (off2_eq c)]
  have hval : ∀ i ∈ slotSet c, ((scrM : Memref sig .tc .vmem S4x2x128x256 .fp8e4m3).access
      (Rect.unit (s := S4x2x128x256) (k0_off2 c) S1x2x128x256.size (k0_off2_inb c))).write (Elt F) f (k0_pay1 (own m c)) Finset.univ i = allW m i := by
    intro i hi
    rw [← hset] at hi
    unfold View.set at hi
    obtain ⟨x, -, rfl⟩ := Finset.mem_map.1 hi
    rw [View.write_emb_of_mem _ _ (Finset.mem_univ x)]
    have hx0 : (x 0).val < 1 := (x 0).isLt
    have he : ∀ a, ((((scrM : Memref sig .tc .vmem S4x2x128x256 .fp8e4m3).access
        (Rect.unit (s := S4x2x128x256) (k0_off2 c) S1x2x128x256.size (k0_off2_inb c))).emb x) a).val = (![c.val, 0, 0, 0] : Fin 4 → Nat) a + 1 * (x a).val := by
      intro a; rw [← off2_eq c]; rfl
    have hc : (⟨((((scrM : Memref sig .tc .vmem S4x2x128x256 .fp8e4m3).access
        (Rect.unit (s := S4x2x128x256) (k0_off2 c) S1x2x128x256.size (k0_off2_inb c))).emb x) 0).val, Fin.isLt _⟩ : Dev nD) = c :=
      Fin.ext ((he 0).trans (by show c.val + 1 * (x 0).val = c.val; omega))
    have hi : inSlot (((scrM : Memref sig .tc .vmem S4x2x128x256 .fp8e4m3).access
        (Rect.unit (s := S4x2x128x256) (k0_off2 c) S1x2x128x256.size (k0_off2_inb c))).emb x) = x := by
      funext a
      match a with
      | ⟨0, _⟩ => exact Fin.ext (show 0 = (x 0).val by omega)
      | ⟨1, _⟩ => exact Fin.ext ((he 1).trans (by show 0 + 1 * (x 1).val = (x 1).val; omega))
      | ⟨2, _⟩ => exact Fin.ext ((he 2).trans (by show 0 + 1 * (x 2).val = (x 2).val; omega))
      | ⟨3, _⟩ => exact Fin.ext ((he 3).trans (by show 0 + 1 * (x 3).val = (x 3).val; omega))
    unfold allW
    rw [hi, hc]
    rfl
  have hw := wp_store (Γ := .empty) (Q := Q) (k := k) (defs := defs₀ (F := F)) 𝒱₀ (c : Thread nD τ) none Set.univ (m := scrM)
    (r := Rect.unit (s := S4x2x128x256) (k0_off2 c) S1x2x128x256.size (k0_off2_inb c)) (w := k0_pay1 (own m c)) (Mk := Finset.univ) (hx := hx) (hm := hm)
    (S := slotSet c) (f := f) hset.le
  have he : slotPts fullShare c c (allW m) = (((scrM : Memref sig .tc .vmem S4x2x128x256 .fp8e4m3).access
      (Rect.unit (s := S4x2x128x256) (k0_off2 c) S1x2x128x256.size (k0_off2_inb c))).loc (c : Thread nD τ) ↦[slotSet c]{fullShare}
      (((scrM : Memref sig .tc .vmem S4x2x128x256 .fp8e4m3).access
      (Rect.unit (s := S4x2x128x256) (k0_off2 c) S1x2x128x256.size (k0_off2_inb c))).write (Elt F) f (k0_pay1 (own m c)) Finset.univ) : sProp 𝕄) :=
    pointsTo_congr fun i hi => (hval i hi).symm
  rw [he]
  exact hw

end Cert.KernelIdeal.Moe

end
-- ==== Proof.KernelIdeal.Data.lean ====
/-
# What the kernel reads and writes, and what a device holds before and after

The output of a device as a function of the arrays, and the resources at the kernel's entry and exit.
-/
module

public import proofs.«01_k».proof.Proof.KernelIdeal.Steps

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Four devices as one and its three peers -/

theorem dev_split (c : Dev nD) (Φ : Dev nD → sProp 𝕄) :
    bigSep Finset.univ Φ = iprop(Φ c ∗ Φ (peer 0 c) ∗ Φ (peer 1 c) ∗ Φ (peer 2 c)) :=
  bigSep_univ_eq_bigSepL [c, peer 0 c, peer 1 c, peer 2 c] (by revert c; decide) (by revert c; decide) Φ
theorem three_split (Φ : Fin 3 → sProp 𝕄) : bigSep Finset.univ Φ = iprop(Φ 0 ∗ Φ 1 ∗ Φ 2) :=
  bigSep_univ_eq_bigSepL [0, 1, 2] (by decide) (by decide) Φ

/-- The buffer, slot by slot. -/
theorem slots_split (c : Dev nD) (f : S4x2x128x256.Idx → Elt F .fp8e4m3) :
    (((c : Thread nD τ).loc cc0_scratch0) ↦{fullShare} f : sProp 𝕄) = bigSep Finset.univ fun j : Dev nD => slotPts fullShare c j f := by
  have h := pointsTo_biUnion (Ix := Unit) (Name := ℕ) (U := UU) (Lvl := ℕ) (Val := Elt F) (q := fullShare) (f := f) (ℓ := (c : Thread nD τ).loc cc0_scratch0) (Finset.univ : Finset (Dev nD)) slotSet
    (fun j _ j' _ hj => slot_disjoint j j' hj)
  rw [slots_univ] at h
  exact h

/-! ## The arrays' contents -/

/-- A device's number as the program's word. -/
def word (c : Dev nD) : BitVec 32 := BitVec.ofNat 32 c.val

def xV (c : Dev nD) : Vec F S256x128 .bf16 := iblk m c (0 : Fin 6) t0_0
def rV (c : Dev nD) : Vec F S128x8 .bf16 := iblk m c (1 : Fin 6) t0_0
def eV (c : Dev nD) : Vec F S256x1 .i32 := iblk m c (2 : Fin 6) t0_0
def sV (c : Dev nD) : Vec F S128x256 .bf16 := iblk m c (4 : Fin 6) t0_0
/-- One of the device's own two experts. -/
def ownOne (c : Dev nD) (e : Fin 2) : Vec F S1x128x256 .bf16 := fun j => own m c (ix3 e (j 1) (j 2))

/-- The column numbers the router compares with. -/
abbrev cols : IVec S256x8 32 := iota .tc S256x8 32 [1] iota_S256x8_d1_w32

/-- The kernel's output from the values it loads: its own number and its peers', the tokens, the router, the tokens' experts, its
    two experts, the shared weights, the experts of the three slots it received. -/
def outV (w0 w1 w2 w3 : BitVec 32) (x : Vec F S256x128 .bf16) (r : Vec F S128x8 .bf16) (e : Vec F S256x1 .i32)
    (o0 o1 : Vec F S1x128x256 .bf16) (s : Vec F S128x256 .bf16) (p0 p1 q0 q1 r0 r1 : Vec F S1x1x128x256 .fp8e4m3) : FVec F S256x256 .bf16 :=
  k0_pay16 (k0_pay6 w2 cols (k0_pay2 x r e) (k0_pay3 x)) (k0_pay7 w2 cols (k0_pay2 x r e) (k0_pay3 x))
    (k0_pay15 (k0_pay5 cols (k0_pay2 x r e) (k0_pay3 x) (Scalar.addi (Scalar.muli w1 2#32) 1#32))
      (k0_pay9 (k0_pay3 x) (k0_pay8 w3 cols (k0_pay2 x r e))) (k0_pay10 w3 cols (k0_pay2 x r e) (k0_pay3 x))
      (k0_pay13 (k0_pay3 x) (k0_pay4 w1 x r e x) (k0_pay11 w0 cols (k0_pay2 x r e) (k0_pay3 x))
        (k0_pay12 w0 cols (k0_pay2 x r e)) s o0 o1 p0)
      (k0_pay14 p1) (constant S256x256 .f32 0x00000000#32) r0 r1)
    q0 q1

def outAt (c : Dev nD) : FVec F S256x256 .bf16 :=
  outV (word c) (word (peer 0 c)) (word (peer 1 c)) (word (peer 2 c)) (xV m c) (rV m c) (eV m c) (ownOne m c 0) (ownOne m c 1) (sV m c)
    (slab m (peer 0 c) 0) (slab m (peer 0 c) 1) (slab m (peer 1 c) 0) (slab m (peer 1 c) 1) (slab m (peer 2 c) 0) (slab m (peer 2 c) 1)

/-! ## Entry and exit -/

section Ghost
variable (K : GSem nD τ sig → ℕ)

/-- A device's positions at its cells. -/
def places (c : Dev nD) : sProp 𝕄 :=
  iprop(atPos ER (barCell c) 0 ∅ 0 ∗ (bigSep Finset.univ fun j => atPos ER (entryCell c j) 0 ∅ 0)
    ∗ (bigSep Finset.univ fun j => atPos ER (recvCell c j) 0 ∅ 0) ∗ bigSep Finset.univ fun k => atPos ER (sendCell c k) 0 ∅ 0)
/-- The tokens of the duties a device pays. -/
def tokens (c : Dev nD) : sProp 𝕄 :=
  iprop(dutyTok ER (barCell c) 0 () ∗ (bigSep Finset.univ fun k : Fin 3 => dutyTok ER (entryCell (peer k c) c) 0 ())
    ∗ (bigSep Finset.univ fun k : Fin 3 => dutyTok ER (recvCell (peer k c) c) 0 ())
    ∗ bigSep Finset.univ fun k => dutyTok ER (sendCell c k) 0 ())
/-- The units a device's waits will find. -/
def credits (c : Dev nD) : sProp 𝕄 :=
  iprop(cred (tallyAt (barCell c) () 1) ∗ (bigSep Finset.univ fun k : Fin 3 => cred (tallyAt (entryCell c (peer k c)) () 1))
    ∗ bigSep Finset.univ fun k : Fin 3 => cred (tallyAt (recvCell c (peer k c)) () N))
def ghost (c : Dev nD) : sProp 𝕄 := iprop(records m K ∗ places c ∗ tokens c)
end Ghost

def start (c : Dev nD) : sProp 𝕄 := iprop((∃ K, ghost (F := F) m K c) ∗ credits c ∗ levAts L lv)

def Φ₀ (c : Dev nD) : sProp 𝕄 := iprop(start m c ∗ ∃ f, bigSep Finset.univ fun j : Dev nD => slotPts (F := F) fullShare c j f)
/-- At the exit the buffer is filled and every cell is at zero. -/
def Φ₁ (c : Dev nD) : sProp 𝕄 :=
  iprop((bigSep Finset.univ fun j : Dev nD => slotPts fullShare c j (allW m)) ∗ semVal (barCell c) 0
    ∗ (bigSep Finset.univ fun j => semVal (entryCell c j) 0) ∗ (bigSep Finset.univ fun j => semVal (recvCell c j) 0)
    ∗ bigSep Finset.univ fun k => semVal (sendCell c k) 0)

def dats (_ : Fin 1) (c : Dev nD) : Dat τ (Elt F) Unit ℕ UU ℕ cfg0 c where
  A w := V m c (Pipeline.arrRef spec0 w)
  after w _ := match w with
    | ⟨0, _⟩ => xV m c
    | ⟨1, _⟩ => rV m c
    | ⟨2, _⟩ => eV m c
    | ⟨3, _⟩ => own m c
    | ⟨4, _⟩ => sV m c
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Moe

end
-- ==== Proof.KernelIdeal.Body.lean ====
/-
# The kernel, executed on one device

One rule per effect, in program order, at a symbolic device.
-/
module

public import proofs.«01_k».proof.Proof.KernelIdeal.Data

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Loads and stores of whole staging buffers -/

theorem hz2 : (![0, 0] : Fin 2 → Nat) = fun _ => 0 := funext fun a => by fin_cases a <;> rfl
theorem hz3 : (![0, 0, 0] : Fin 3 → Nat) = fun _ => 0 := funext fun a => by fin_cases a <;> rfl

/-- One of two experts, as a load of a block of the staged array reads it. -/
theorem read_one (e : Fin 2) (inb : ∀ a, (![e.val, 0, 0] : Fin 3 → Nat) a + S1x128x256.size a ≤ S2x128x256.size a) (f : Vec F S2x128x256 .bf16) :
    (Memref.whole cc0_stg3_0 : Memref sig .tc .vmem S2x128x256 .bf16).view.readAt (Elt F)
      (Rect.unit (s := S2x128x256) ![e.val, 0, 0] S1x128x256.size inb).toLoadRect f = fun j => f (ix3 e (j 1) (j 2)) := by
  funext j
  refine congrArg f (funext fun a => Fin.ext ?_)
  have h0 : (j 0).val < 1 := (j 0).isLt
  match a with
  | ⟨0, _⟩ => show e.val + 1 * (j 0).val = e.val; omega
  | ⟨1, _⟩ => show 0 + 1 * (j 1).val = (j 1).val; omega
  | ⟨2, _⟩ => show 0 + 1 * (j 2).val = (j 2).val; omega

/-- The first part of the kernel: the device's number, and its peers'. -/
theorem part1_eq (arg0 : Memref sig .tc .vmem S256x128 .bf16) (harg0 : arg0.IsWhole) (arg1 : Memref sig .tc .vmem S128x8 .bf16) (harg1 : arg1.IsWhole)
    (arg2 : Memref sig .tc .vmem S256x1 .i32) (harg2 : arg2.IsWhole) (arg3 : Memref sig .tc .vmem S2x128x256 .bf16) (harg3 : arg3.IsWhole)
    (arg4 : Memref sig .tc .vmem S128x256 .bf16) (harg4 : arg4.IsWhole) (arg5 : Memref sig .tc .vmem S256x256 .bf16) (harg5 : arg5.IsWhole)
    (arg6 : Memref sig .tc .vmem S4x2x128x256 .fp8e4m3) (harg6 : arg6.IsWhole) (arg7 : DmaSems sig S3) (arg8 : DmaSems sig S4) (arg9 : Sems sig S4) :
    k0_part1 (F := F) arg0 harg0 arg1 harg1 arg2 harg2 arg3 harg3 arg4 harg4 arg5 harg5 arg6 harg6 arg7 arg8 arg9
      = ((Prog.lift TpuEff.deviceId : Prog (TpuEff nD τ sig (Elt F) Λ₀ .tc) (Dev nD)) >>= fun d =>
          Pure.pure ⟨d, word d, word (peer 0 d), word (peer 1 d), word (peer 2 d)⟩) := by
  rw [k0_part1_eq_skeleton]
  unfold k0_part1_skel
  refine congrArg ((Prog.lift TpuEff.deviceId : Prog (TpuEff nD τ sig (Elt F) Λ₀ .tc) (Dev nD)) >>= ·) (funext fun d => congrArg Pure.pure ?_)
  revert d
  decide +kernel

/-- The store of the whole output. -/
theorem write_out (f w : Vec F S256x256 .bf16) :
    ((Memref.whole cc0_stg5_0 : Memref sig .tc .vmem S256x256 .bf16).access
      (Rect.unit (s := S256x256) ![0, 0] S256x256.size inb_S256x256_S256x256_0_0) : View sig .tc _ _ _).write (Elt F) f w Finset.univ = w :=
  Memref.write_access_unit_zero_univ (Elt F) cc0_stg5_0 hz2 _ f w

/-- A slot's copy delivers the same units at any offset. -/
theorem slot_credit {off : Fin 4 → Nat} (inb : ∀ a, off a + S1x2x128x256.size a ≤ S4x2x128x256.size a) :
    (((scrM : Memref sig .tc .vmem S4x2x128x256 .fp8e4m3).slice (Rect.unit (s := S4x2x128x256) off S1x2x128x256.size inb) (fun _ => rfl)).squeeze
      S2x128x256 squeezes_S1x2x128x256_S2x128x256).view.dmaCredit = N := rfl

/-- A slot, as the three shares its copies read. -/
theorem slot_thirds (c : Dev nD) (f : S4x2x128x256.Idx → Elt F .fp8e4m3) :
    slotPts fullShare c c f = iprop(slotPts (shares3 fullShare 0) c c f ∗ slotPts (shares3 fullShare 1) c c f ∗ slotPts (shares3 fullShare 2) c c f) := by
  unfold slotPts
  have h := pointsTo_thirds (Ix := Unit) (Name := ℕ) (U := UU) (Lvl := ℕ) (Val := Elt F)
    (I := slotSet c) (f := f) (ℓ := (c : Thread nD τ).loc cc0_scratch0) fullShare
  exact Entails.antisymm h.1 h.2

/-! ## The execution -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

variable (K : GSem nD τ sig → ℕ)

def bodyPre (c : Dev nD) : sProp 𝕄 :=
  iprop((ghost m K c ∗ credits c ∗ levAts L lv ∗ ∃ f, bigSep Finset.univ fun j : Dev nD => slotPts (F := F) fullShare c j f)
    ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(Φ₁ m c ∗ (dats m 0 c).owesAt () t0_0.succ ∗ stg c cc0_stg0_0 (xV m c) ∗ stg c cc0_stg1_0 (rV m c) ∗ stg c cc0_stg2_0 (eV m c)
    ∗ stg c cc0_stg3_0 (own m c) ∗ stg c cc0_stg4_0 (sV m c) ∗ stg c cc0_stg5_0 (outAt m c))

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 cc0_scratch3) Kt := by
  simp only [cc0_body_eq_skeleton]; unfold cc0_body_skel
  simp only [part1_eq, k0_part2_eq_skeleton, k0_part3_eq_skeleton, k0_part4_eq_skeleton, k0_part5_eq_skeleton, k0_part6_eq_skeleton,
    k0_part7_eq_skeleton, k0_part8_eq_skeleton, k0_part9_eq_skeleton]
  unfold k0_part2_skel k0_part3_skel k0_part4_skel k0_part5_skel k0_part6_skel k0_part7_skel k0_part8_skel k0_part9_skel
  simp only [semSignalWord, semWaitWord, semSignalHereWord, Prog.lift, Prog.bind_op, Prog.bind_ret, Prog.pure_eq_ret, wp_deviceId]
  unfold bodyPre ghost places tokens credits
  simp only [dev_split c, three_split]
  iintro ⟨⟨⟨⟨#HR, ⟨HaB, ⟨HaE, HaE0, HaE1, HaE2⟩, ⟨HaV, HaV0, HaV1, HaV2⟩, HaS0, HaS1, HaS2⟩, HtB, ⟨HtE0, HtE1, HtE2⟩, ⟨HtV0, HtV1, HtV2⟩, HtS0, HtS1, HtS2⟩,
    ⟨HcB, ⟨HcE0, HcE1, HcE2⟩, HcV0, HcV1, HcV2⟩, #Hlev, ⟨%f0, Hown, Hp0, Hp1, Hp2⟩⟩,
    Ho, ⟨%d0, %g0, %hg0, Hx⟩, ⟨%d1, %g1, %hg1, Hr⟩, ⟨%d2, %g2, %hg2, He⟩, ⟨%d3, %g3, %hg3, Hw⟩, ⟨%d4, %g4, %hg4, Hs⟩, ⟨%d5, %g5, %hg5, Hout⟩⟩, Hk⟩
  have hx : g0 = xV m c := by rw [hg0]; unfold Dat.before; rw [if_pos (fetch0_0 t0_0)]; rfl
  have hr : g1 = rV m c := by rw [hg1]; unfold Dat.before; rw [if_pos (fetch0_1 t0_0)]; rfl
  have he : g2 = eV m c := by rw [hg2]; unfold Dat.before; rw [if_pos (fetch0_2 t0_0)]; rfl
  have hw : g3 = own m c := by rw [hg3]; unfold Dat.before; rw [if_pos (fetch0_3 t0_0)]; rfl
  have hs : g4 = sV m c := by rw [hg4]; unfold Dat.before; rw [if_pos (fetch0_4 t0_0)]; rfl
  subst hx hr he hw hs
  unfold Dat.owesAt Pipeline.owesWithin
  icases Ho with ⟨%W, %hW, HO⟩
  rw [show (dats m 0 c).owed t0_0.castSucc = O₀ c from rfl]
  -- the barrier: the device's own signal, its own wait
  iapply (wp_signal_bar m K c W) $$ [HO HtB]
  · isplitr; · iexact HR
    isplitl [HO] <;> iassumption
  iintro HO
  iapply (wp_wait_reg m K c _ barS rfl (mem_reg _) (used_bar c) (E0 c) (above_E0 (by rw [lv_bar]; decide) c) W) $$ [HcB HO HaB]
  · isplitr; · iexact HR
    isplitr; · iexact Hlev
    isplitl [HcB]; · iexact HcB
    isplitl [HO] <;> iassumption
  iintro ⟨HO, HzB, -⟩
  -- the entry signals, each handing the peer its slot of the device's buffer
  unfold E0
  iapply (wp_signal_entry m K c _ 0 _ (dev1_eq c) (entry_at c (k0_off1_eq c) _) (E1 c) f0 _) $$ [HO HtE0 Hp0]
  · isplitr; · iexact HR
    isplitl [HO]; · iexact HO
    isplitl [HtE0] <;> iassumption
  iintro HO
  unfold E1
  iapply (wp_signal_entry m K c _ 1 _ (dev2_eq c) (entry_at c (k0_off1_eq c) _) (E2 c) f0 _) $$ [HO HtE1 Hp1]
  · isplitr; · iexact HR
    isplitl [HO]; · iexact HO
    isplitl [HtE1] <;> iassumption
  iintro HO
  unfold E2
  iapply (wp_signal_entry m K c _ 2 _ (dev3_eq c) (entry_at c (k0_off1_eq c) _) (R0 c) f0 _) $$ [HO HtE2 Hp2]
  · isplitr; · iexact HR
    isplitl [HO]; · iexact HO
    isplitl [HtE2] <;> iassumption
  iintro HO
  -- the device's own two experts, quantized into its own slot
  iapply (wp_load 𝒱₀ (c : Thread nD τ) none Set.univ (m := Memref.whole cc0_stg3_0) (Finset.subset_univ _)) $$ Hw; iintro Hw
  rw [show (Memref.whole cc0_stg3_0 : Memref sig .tc .vmem S2x128x256 .bf16).view.readAt (Elt F)
    (Rect.unit (s := S2x128x256) ![0, 0, 0] S2x128x256.size inb_S2x128x256_S2x128x256_0_0_0).toLoadRect (own m c) = own m c from
      Memref.readAt_unit_zero (Elt F) cc0_stg3_0 hz3 _ _]
  iapply (wp_load_own c f0) $$ Hown; iintro Hown
  iapply (wp_store_own m c f0) $$ Hown; iintro Hown
  -- its three shares, one per copy
  ihave Hth := (Entails.of_eq (slot_thirds c (allW m))) $$ Hown
  icases Hth with ⟨Hq0, Hq1, Hq2⟩
  -- the peer's entry signal, with its slot; the copy into it
  iapply (wp_wait_reg m K c _ (entryS (peer 0 c)) (entry_at (peer 0 c) (off3_eq 0 c) _) (mem_reg _) (used_entry (peer_ne 0 c)) (R0 c)
    (above_R0 (by rw [lv_entry]; decide) c) _) $$ [HcE0 HO HaE0]
  · isplitr; · iexact HR
    isplitr; · iexact Hlev
    isplitl [HcE0]; · iexact HcE0
    isplitl [HO] <;> iassumption
  rw [pay_entry]
  iintro ⟨HO, HzE0, ⟨%f1, Hd⟩⟩
  unfold R0
  iapply (wp_send_slot m K c _ 0 (dev4_eq c) _ _ (send_at 0 rfl _) (recv_at c (k0_off1_eq c) _) (R1 c) f1 _) $$ [Hq0 Hd HO HtS0 HtV0]
  · isplitr; · iexact HR
    isplitl [Hq0]; · iexact Hq0
    isplitl [Hd]; · iexact Hd
    isplitl [HO]; · iexact HO
    isplitl [HtS0] <;> iassumption
  iintro ⟨HcS0, HO⟩
  -- the peer's entry signal, with its slot; the copy into it
  iapply (wp_wait_reg m K c _ (entryS (peer 1 c)) (entry_at (peer 1 c) (off3_eq 1 c) _) (mem_reg _) (used_entry (peer_ne 1 c)) (R1 c)
    (above_R1 (by rw [lv_entry]; decide) c) _) $$ [HcE1 HO HaE1]
  · isplitr; · iexact HR
    isplitr; · iexact Hlev
    isplitl [HcE1]; · iexact HcE1
    isplitl [HO] <;> iassumption
  rw [pay_entry]
  iintro ⟨HO, HzE1, ⟨%f2, Hd⟩⟩
  unfold R1
  iapply (wp_send_slot m K c _ 1 (dev5_eq c) _ _ (send_at 1 rfl _) (recv_at c (k0_off1_eq c) _) (R2 c) f2 _) $$ [Hq1 Hd HO HtS1 HtV1]
  · isplitr; · iexact HR
    isplitl [Hq1]; · iexact Hq1
    isplitl [Hd]; · iexact Hd
    isplitl [HO]; · iexact HO
    isplitl [HtS1] <;> iassumption
  iintro ⟨HcS1, HO⟩
  -- the peer's entry signal, with its slot; the copy into it
  iapply (wp_wait_reg m K c _ (entryS (peer 2 c)) (entry_at (peer 2 c) (off3_eq 2 c) _) (mem_reg _) (used_entry (peer_ne 2 c)) (R2 c)
    (above_R2 (by rw [lv_entry]; decide) c) _) $$ [HcE2 HO HaE2]
  · isplitr; · iexact HR
    isplitr; · iexact Hlev
    isplitl [HcE2]; · iexact HcE2
    isplitl [HO] <;> iassumption
  rw [pay_entry]
  iintro ⟨HO, HzE2, ⟨%f3, Hd⟩⟩
  unfold R2
  iapply (wp_send_slot m K c _ 2 (dev6_eq c) _ _ (send_at 2 rfl _) (recv_at c (k0_off1_eq c) _) 0 f3 _) $$ [Hq2 Hd HO HtS2 HtV2]
  · isplitr; · iexact HR
    isplitl [Hq2]; · iexact Hq2
    isplitl [Hd]; · iexact Hd
    isplitl [HO]; · iexact HO
    isplitl [HtS2] <;> iassumption
  iintro ⟨HcS2, HO⟩
  -- the tokens, the router, the tokens' experts
  iapply (wp_load 𝒱₀ (c : Thread nD τ) none Set.univ (m := Memref.whole cc0_stg0_0) (Finset.subset_univ _)) $$ Hx; iintro Hx
  rw [show (Memref.whole cc0_stg0_0 : Memref sig .tc .vmem S256x128 .bf16).view.readAt (Elt F)
    (Rect.unit (s := S256x128) ![0, 0] S256x128.size inb_S256x128_S256x128_0_0).toLoadRect (xV m c) = xV m c from
      Memref.readAt_unit_zero (Elt F) cc0_stg0_0 hz2 _ _]
  iapply (wp_load 𝒱₀ (c : Thread nD τ) none Set.univ (m := Memref.whole cc0_stg1_0) (Finset.subset_univ _)) $$ Hr; iintro Hr
  rw [show (Memref.whole cc0_stg1_0 : Memref sig .tc .vmem S128x8 .bf16).view.readAt (Elt F)
    (Rect.unit (s := S128x8) ![0, 0] S128x8.size inb_S128x8_S128x8_0_0).toLoadRect (rV m c) = rV m c from
      Memref.readAt_unit_zero (Elt F) cc0_stg1_0 hz2 _ _]
  iapply (wp_load 𝒱₀ (c : Thread nD τ) none Set.univ (m := Memref.whole cc0_stg2_0) (Finset.subset_univ _)) $$ He; iintro He
  rw [show (Memref.whole cc0_stg2_0 : Memref sig .tc .vmem S256x1 .i32).view.readAt (Elt F)
    (Rect.unit (s := S256x1) ![0, 0] S256x1.size inb_S256x1_S256x1_0_0).toLoadRect (eV m c) = eV m c from
      Memref.readAt_unit_zero (Elt F) cc0_stg2_0 hz2 _ _]
  iapply (wp_load 𝒱₀ (c : Thread nD τ) none Set.univ (m := Memref.whole cc0_stg0_0) (Finset.subset_univ _)) $$ Hx; iintro Hx
  rw [show (Memref.whole cc0_stg0_0 : Memref sig .tc .vmem S256x128 .bf16).view.readAt (Elt F)
    (Rect.unit (s := S256x128) ![0, 0] S256x128.size inb_S256x128_S256x128_0_0).toLoadRect (xV m c) = xV m c from
      Memref.readAt_unit_zero (Elt F) cc0_stg0_0 hz2 _ _]
  -- the shared weights; the device's own experts, one at a time
  iapply (wp_load 𝒱₀ (c : Thread nD τ) none Set.univ (m := Memref.whole cc0_stg4_0) (Finset.subset_univ _)) $$ Hs; iintro Hs
  rw [show (Memref.whole cc0_stg4_0 : Memref sig .tc .vmem S128x256 .bf16).view.readAt (Elt F)
    (Rect.unit (s := S128x256) ![0, 0] S128x256.size inb_S128x256_S128x256_0_0).toLoadRect (sV m c) = sV m c from
      Memref.readAt_unit_zero (Elt F) cc0_stg4_0 hz2 _ _]
  iapply (wp_load 𝒱₀ (c : Thread nD τ) none Set.univ (m := Memref.whole cc0_stg3_0) (Finset.subset_univ _)) $$ Hw; iintro Hw
  rw [show (Memref.whole cc0_stg3_0 : Memref sig .tc .vmem S2x128x256 .bf16).view.readAt (Elt F)
    (Rect.unit (s := S2x128x256) ![0, 0, 0] S1x128x256.size inb_S2x128x256_S1x128x256_0_0_0).toLoadRect (own m c) = ownOne m c 0 from
      read_one 0 _ _]
  iapply (wp_load 𝒱₀ (c : Thread nD τ) none Set.univ (m := Memref.whole cc0_stg3_0) (Finset.subset_univ _)) $$ Hw; iintro Hw
  rw [show (Memref.whole cc0_stg3_0 : Memref sig .tc .vmem S2x128x256 .bf16).view.readAt (Elt F)
    (Rect.unit (s := S2x128x256) ![1, 0, 0] S1x128x256.size inb_S2x128x256_S1x128x256_1_0_0).toLoadRect (own m c) = ownOne m c 1 from
      read_one 1 _ _]
  -- peer 1 on: its copy has landed; its two experts
  iapply (wp_wait_dma m K c _ (recvS (peer 0 c)) (recv_at (peer 0 c) (off3_eq 0 c) _) (mem_recv _) (used_recv (peer_ne 0 c)) 0
    (above_zero _) _ _ (slot_credit _) _) $$ [HcV0 HO HaV0]
  · isplitr; · iexact HR
    isplitr; · iexact Hlev
    isplitl [HcV0]; · iexact HcV0
    isplitl [HO] <;> iassumption
  rw [pay_recv]
  iintro ⟨HO, HzV0, Hg0⟩
  iapply (wp_load_slab m c (peer 0 c) 0 (off6_eq 0 c) _) $$ Hg0; iintro Hg0
  iapply (wp_load_slab m c (peer 0 c) 1 (off7_eq 0 c) _) $$ Hg0; iintro Hg0
  -- peer 3 on: its copy has landed; its two experts
  iapply (wp_wait_dma m K c _ (recvS (peer 2 c)) (recv_at (peer 2 c) (off3_eq 2 c) _) (mem_recv _) (used_recv (peer_ne 2 c)) 0
    (above_zero _) _ _ (slot_credit _) _) $$ [HcV2 HO HaV2]
  · isplitr; · iexact HR
    isplitr; · iexact Hlev
    isplitl [HcV2]; · iexact HcV2
    isplitl [HO] <;> iassumption
  rw [pay_recv]
  iintro ⟨HO, HzV2, Hg2⟩
  iapply (wp_load_slab m c (peer 2 c) 0 (off6_eq 2 c) _) $$ Hg2; iintro Hg2
  iapply (wp_load_slab m c (peer 2 c) 1 (off7_eq 2 c) _) $$ Hg2; iintro Hg2
  -- peer 2 on: its copy has landed; its two experts
  iapply (wp_wait_dma m K c _ (recvS (peer 1 c)) (recv_at (peer 1 c) (off3_eq 1 c) _) (mem_recv _) (used_recv (peer_ne 1 c)) 0
    (above_zero _) _ _ (slot_credit _) _) $$ [HcV1 HO HaV1]
  · isplitr; · iexact HR
    isplitr; · iexact Hlev
    isplitl [HcV1]; · iexact HcV1
    isplitl [HO] <;> iassumption
  rw [pay_recv]
  iintro ⟨HO, HzV1, Hg1⟩
  iapply (wp_load_slab m c (peer 1 c) 0 (off6_eq 1 c) _) $$ Hg1; iintro Hg1
  iapply (wp_load_slab m c (peer 1 c) 1 (off7_eq 1 c) _) $$ Hg1; iintro Hg1
  -- the output
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0)
    (r := Rect.unit (s := S256x256) ![0, 0] S256x256.size inb_S256x256_S256x256_0_0) (Mk := Finset.univ) (Finset.subset_univ _)) $$ Hout; iintro Hout
  rw [write_out]
  iapply (wp_wait_dma m K c _ (sendS 0) (send_at 0 rfl _) (mem_send _) (used_send c 0) 0
    (above_zero _) _ _ (slotM_amount c (sendS 0)) _) $$ [HcS0 HO HaS0]
  · isplitr; · iexact HR
    isplitr; · iexact Hlev
    isplitl [HcS0]; · iexact HcS0
    isplitl [HO] <;> iassumption
  rw [pay_send]
  iintro ⟨HO, HzS0, Hq0⟩
  iapply (wp_wait_dma m K c _ (sendS 1) (send_at 1 rfl _) (mem_send _) (used_send c 1) 0
    (above_zero _) _ _ (slotM_amount c (sendS 1)) _) $$ [HcS1 HO HaS1]
  · isplitr; · iexact HR
    isplitr; · iexact Hlev
    isplitl [HcS1]; · iexact HcS1
    isplitl [HO] <;> iassumption
  rw [pay_send]
  iintro ⟨HO, HzS1, Hq1⟩
  iapply (wp_wait_dma m K c _ (sendS 2) (send_at 2 rfl _) (mem_send _) (used_send c 2) 0
    (above_zero _) _ _ (slotM_amount c (sendS 2)) _) $$ [HcS2 HO HaS2]
  · isplitr; · iexact HR
    isplitr; · iexact Hlev
    isplitl [HcS2]; · iexact HcS2
    isplitl [HO] <;> iassumption
  rw [pay_send]
  iintro ⟨HO, HzS2, Hq2⟩
  ihave Hown := (Entails.of_eq (slot_thirds c (allW m)).symm) $$ [Hq0 Hq1 Hq2]
  · isplitl [Hq0]; · iexact Hq0
    isplitl [Hq1] <;> iassumption
  -- the two cells nobody pays
  imod (close_cell m K c (mem_reg (entryS c)) (R := 0) (duties_unused m (not_used_entry c))) $$ [HaE] with HzE
  · isplitr; · iexact HR
    iexact HaE
  imod (close_cell m K c (mem_recv c) (R := 0) (duties_unused m (not_used_recv c))) $$ [HaV] with HzV
  · isplitr; · iexact HR
    iexact HaV
  rw [wp_ret]; imodintro
  iapply Hk
  unfold bodyPost Φ₁ Dat.owesAt Pipeline.owesWithin
  rw [show (dats m 0 c).owed t0_0.succ = 0 from rfl]
  simp only [dev_split c, three_split]
  isplitl [Hown Hg0 Hg1 Hg2 HzB HzE HzE0 HzE1 HzE2 HzV HzV0 HzV1 HzV2 HzS0 HzS1 HzS2]
  · isplitl [Hown Hg0 Hg1 Hg2]
    · isplitl [Hown]; · iexact Hown
      isplitl [Hg0]; · iexact Hg0
      isplitl [Hg1] <;> iassumption
    isplitl [HzB]; · iexact HzB
    isplitl [HzE HzE0 HzE1 HzE2]
    · isplitl [HzE]; · iexact HzE
      isplitl [HzE0]; · iexact HzE0
      isplitl [HzE1] <;> iassumption
    isplitl [HzV HzV0 HzV1 HzV2]
    · isplitl [HzV]; · iexact HzV
      isplitl [HzV0]; · iexact HzV0
      isplitl [HzV1] <;> iassumption
    isplitl [HzS0]; · iexact HzS0
    isplitl [HzS1] <;> iassumption
  isplitl [HO]
  · iexists (insert (SemLoc.dma (sendS 2), ()) (insert (SemLoc.dma (sendS 1), ()) (insert (SemLoc.dma (sendS 0), ()) (insert (SemLoc.dma (recvS (peer 1 c)), ()) (insert (SemLoc.dma (recvS (peer 2 c)), ()) (insert (SemLoc.dma (recvS (peer 0 c)), ())
      (insert (SemLoc.reg (entryS (peer 2 c)), ()) (insert (SemLoc.reg (entryS (peer 1 c)), ()) (insert (SemLoc.reg (entryS (peer 0 c)), ()) (insert (SemLoc.reg barS, ()) W))))))))))
    isplitr
    · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [He]
  · iexists _; isplitr; · (ipureintro; rfl)
    iexact He
  isplitl [Hw]
  · iexists _; isplitr; · (ipureintro; rfl)
    iexact Hw
  isplitl [Hs]
  · iexists _; isplitr; · (ipureintro; rfl)
    iexact Hs
  iexists _; isplitr; · (ipureintro; rfl)
  iexact Hout

end Cert.KernelIdeal.Moe

end
-- ==== Proof.KernelIdeal.Launch.lean ====
/-
# The launch

The four devices' cells made, their invariants allocated, the tokens and the credit dealt, and the run read off.
-/
module

public import proofs.«01_k».proof.Proof.KernelIdeal.Body
public import Idealize.ShloMosaic.Lib.Pipeline.CollectiveSegs
public import Idealize.ShloMosaic.Lib.Pipeline.ValueKit.Geometry

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The initial state. -/
abbrev s₀ : MemSt nD τ sig (Elt F) := ⟨m, fun _ => 0, ρ⟩

/-! ## The body, as the pipeline calls it -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre' (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ (bodyAt0 t0_0) (fun _ => bodyPost m c)
  unfold bodyPre' Φ₀ start
  iintro ⟨⟨⟨⟨%K, Hg⟩, Hrest⟩, Hscr⟩, Ho, Hw⟩
  iapply (sound_body m K c fun _ => bodyPost m c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    iexact Hw
  · iintro H; iexact H

/-! ## The cells, listed -/

theorem eq_of_entails {A B : sProp 𝕄} (h : A ⊢ B) (h' : B ⊢ A) : A = B := Entails.antisymm h h'
theorem bigSep_of_each {I : Type} {s : Finset I} {A B : I → sProp 𝕄} (h : ∀ i, A i ⊢ B i) : bigSep s A ⊢ bigSep s B :=
  bigSep_mono fun i _ => h i

theorem four_split (Φ : Dev nD → sProp 𝕄) : bigSep Finset.univ Φ = iprop(Φ 0 ∗ Φ 1 ∗ Φ 2 ∗ Φ 3) :=
  bigSep_univ_eq_bigSepL [0, 1, 2, 3] (by decide) (by decide) Φ

theorem ringSems_list : ringSems = ([.reg barS, .reg (entryS 0), .reg (entryS 1), .reg (entryS 2), .reg (entryS 3),
    .dma (recvS 0), .dma (recvS 1), .dma (recvS 2), .dma (recvS 3), .dma (sendS 0), .dma (sendS 1), .dma (sendS 2)] : List (SemLoc sig)).toFinset := by
  decide +kernel

/-- A device's cells by kind. -/
theorem cells_split (Φ : SemLoc sig → sProp 𝕄) :
    bigSep ringSems Φ = iprop(Φ (.reg barS) ∗ (bigSep Finset.univ fun j : Dev nD => Φ (.reg (entryS j)))
      ∗ (bigSep Finset.univ fun j : Dev nD => Φ (.dma (recvS j))) ∗ bigSep Finset.univ fun k : Fin 3 => Φ (.dma (sendS k))) := by
  have h : bigSep ringSems Φ = iprop(Φ (.reg barS) ∗ Φ (.reg (entryS 0)) ∗ Φ (.reg (entryS 1)) ∗ Φ (.reg (entryS 2)) ∗ Φ (.reg (entryS 3))
      ∗ Φ (.dma (recvS 0)) ∗ Φ (.dma (recvS 1)) ∗ Φ (.dma (recvS 2)) ∗ Φ (.dma (recvS 3)) ∗ Φ (.dma (sendS 0)) ∗ Φ (.dma (sendS 1)) ∗ Φ (.dma (sendS 2))) :=
    bigSep_eq_bigSepL_of_eq _ ringSems_list (by decide +kernel) Φ
  rw [h, four_split, four_split, three_split]
  refine eq_of_entails ?_ ?_
  · iintro ⟨H0, H1, H2, H3, H4, H5, H6, H7, H8, H9, H10, H11⟩
    isplitl [H0]; · iexact H0
    isplitl [H1 H2 H3 H4]
    · isplitl [H1]; · iexact H1
      isplitl [H2]; · iexact H2
      isplitl [H3] <;> iassumption
    isplitl [H5 H6 H7 H8]
    · isplitl [H5]; · iexact H5
      isplitl [H6]; · iexact H6
      isplitl [H7] <;> iassumption
    isplitl [H9]; · iexact H9
    isplitl [H10] <;> iassumption
  · iintro ⟨H0, ⟨H1, H2, H3, H4⟩, ⟨H5, H6, H7, H8⟩, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10] <;> iassumption

/-- Pairs of a device and one of a set, device by device. -/
theorem pairs_split {J : Type} (t : Finset J) (Φ : Dev nD × J → sProp 𝕄) :
    bigSep (Finset.univ ×ˢ t) Φ = bigSep Finset.univ fun c : Dev nD => bigSep t fun j => Φ (c, j) := by
  classical
  refine Finset.induction_on t ?_ fun b t hb ih => ?_
  · rw [Finset.product_empty, four_split]
    simp only [bigSep_empty]
    exact eq_of_entails ((emp_sep.trans emp_sep).trans emp_sep).2 ((emp_sep.trans emp_sep).trans emp_sep).1
  · have hd : Disjoint ((Finset.univ : Finset (Dev nD)) ×ˢ ({b} : Finset J)) (Finset.univ ×ˢ t) :=
      Finset.disjoint_product.2 (.inr (Finset.disjoint_singleton_left.2 hb))
    rw [Finset.insert_eq, Finset.product_union, bigSep_union hd, ih, Finset.product_singleton, bigSep_map, ← Finset.insert_eq]
    simp only [bigSep_insert hb]
    exact (bigSep_sep' _ _ _).symm

/-- All cells, device by device. -/
theorem ringCells_split (Φ : GSem nD τ sig → sProp 𝕄) :
    bigSep ringCells Φ = bigSep Finset.univ fun c : Dev nD => bigSep ringSems fun sm => Φ ((c : Thread nD τ), sm) := by
  unfold ringCells
  rw [bigSep_map, pairs_split]
  rfl

/-- The kernel's own scoped semaphores. -/
def osem : Fin 11 → SemLoc sig :=
  ![.reg (entryS 0), .reg (entryS 1), .reg (entryS 2), .reg (entryS 3), .dma (sendS 0), .dma (sendS 1), .dma (sendS 2),
    .dma (recvS 0), .dma (recvS 1), .dma (recvS 2), .dma (recvS 3)]
theorem ownSemFacts : Pipeline.OwnSemFacts cfg0.spec osem := by decide +kernel

theorem sems0_eq (c : Dev nD) :
    iprop(Pipeline.ownSems0 (Ix := Unit) (Name := ℕ) (U := UU) (Lvl := ℕ) (Val := Elt F) (τ := τ) osem c ∗ unscopedSems0 c)
      = (bigSep ringSems fun sm => semVal ((c : Thread nD τ), sm) 0 : sProp 𝕄) := by
  have h : (Pipeline.ownSems0 (Ix := Unit) (Name := ℕ) (U := UU) (Lvl := ℕ) (Val := Elt F) (τ := τ) osem c : sProp 𝕄)
      = iprop(semVal (entryCell c 0) 0 ∗ semVal (entryCell c 1) 0 ∗ semVal (entryCell c 2) 0 ∗ semVal (entryCell c 3) 0
        ∗ semVal (sendCell c 0) 0 ∗ semVal (sendCell c 1) 0 ∗ semVal (sendCell c 2) 0
        ∗ semVal (recvCell c 0) 0 ∗ semVal (recvCell c 1) 0 ∗ semVal (recvCell c 2) 0 ∗ semVal (recvCell c 3) 0) :=
    Pipeline.ownSems0_eq_of_list c osem [0, 1, 2, 3, 4, 5, 6, 7, 8, 9, 10] (by decide) (by decide)
  have h' : (unscopedSems0 c : sProp 𝕄) = semVal (barCell c) 0 := by
    unfold unscopedSems0; rw [bigSep_eq_bigSepL_of_eq [SemLoc.reg barS] (by decide +kernel) (by decide)]; rfl
  rw [h, h', cells_split, four_split, four_split, three_split]
  refine eq_of_entails ?_ ?_
  · iintro ⟨⟨H1, H2, H3, H4, H9, H10, H11, H5, H6, H7, H8⟩, H0⟩
    isplitl [H0]; · iexact H0
    isplitl [H1 H2 H3 H4]
    · isplitl [H1]; · iexact H1
      isplitl [H2]; · iexact H2
      isplitl [H3]; · iexact H3
      iexact H4
    isplitl [H5 H6 H7 H8]
    · isplitl [H5]; · iexact H5
      isplitl [H6]; · iexact H6
      isplitl [H7]; · iexact H7
      iexact H8
    isplitl [H9]; · iexact H9
    isplitl [H10]; · iexact H10
    iexact H11
  · iintro ⟨H0, ⟨H1, H2, H3, H4⟩, ⟨H5, H6, H7, H8⟩, H9, H10, H11⟩
    isplitr [H0]
    · isplitl [H1]; · iexact H1
      isplitl [H2]; · iexact H2
      isplitl [H3]; · iexact H3
      isplitl [H4]; · iexact H4
      isplitl [H9]; · iexact H9
      isplitl [H10]; · iexact H10
      isplitl [H11]; · iexact H11
      isplitl [H5]; · iexact H5
      isplitl [H6]; · iexact H6
      isplitl [H7]; · iexact H7
      iexact H8
    iexact H0

/-! ## The tokens, minted for their payers -/

/-- The duties device `c` pays: its barrier, its peers' entry cells, its peers' receive cells, its send cells. -/
def tokOf (cj : Dev nD × Fin 10) : GSem nD τ sig × ℕ × Unit :=
  (match cj.2 with
    | 0 => barCell cj.1
    | 1 => entryCell (peer 0 cj.1) cj.1 | 2 => entryCell (peer 1 cj.1) cj.1 | 3 => entryCell (peer 2 cj.1) cj.1
    | 4 => recvCell (peer 0 cj.1) cj.1 | 5 => recvCell (peer 1 cj.1) cj.1 | 6 => recvCell (peer 2 cj.1) cj.1
    | 7 => sendCell cj.1 0 | 8 => sendCell cj.1 1 | 9 => sendCell cj.1 2, 0, ())
theorem tokOf_injective : Function.Injective tokOf := by decide +kernel
def ringToks : Finset (GSem nD τ sig × ℕ × Unit) := Finset.univ.map ⟨tokOf, tokOf_injective⟩

theorem ten_split (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem toks_dealt : bigSep ringToks (fun x => (dutyTok ER x.1 x.2.1 x.2.2 : sProp 𝕄)) ⊢ bigSep Finset.univ fun c : Dev nD => tokens c := by
  unfold ringToks
  rw [bigSep_map, bigSep_univ_prod]
  refine bigSep_of_each fun c => ?_
  rw [ten_split]
  unfold tokens
  rw [three_split, three_split, three_split]
  iintro ⟨H0, H1, H2, H3, H4, H5, H6, H7, H8, H9⟩
  isplitl [H0]; · iexact H0
  isplitl [H1 H2 H3]
  · isplitl [H1]; · iexact H1
    isplitl [H2]; · iexact H2
    iexact H3
  isplitl [H4 H5 H6]
  · isplitl [H4]; · iexact H4
    isplitl [H5]; · iexact H5
    iexact H6
  isplitl [H7]; · iexact H7
  isplitl [H8]; · iexact H8
  iexact H9

/-! ## The launch's ghost state -/

def u₀ : UU :=
  (initOf (Pipeline.cells cfgs cellOf_inj) (Pipeline.launchToks cfgs cellOf_inj), initOf ringCells ringToks)

def G (c : Dev nD) : sProp 𝕄 :=
  iprop((bigSep ringSems fun sm => roundState ER (rd m) ((c : Thread nD τ), sm) 0)
    ∗ (bigSep ringSems fun sm => atPos ER ((c : Thread nD τ), sm) 0 ∅ 0)
    ∗ (bigSep ringSems fun sm => reached ER ((c : Thread nD τ), sm) 0) ∗ tokens c)
def G' (c : Dev nD) : sProp 𝕄 := iprop(∃ K, ghost m K c)

theorem fund_ring : BI.own (ER (initOf ringCells ringToks)) ⊢ (|==> bigSep Finset.univ (G m) : sProp 𝕄) := by
  iintro HX
  imod (Rounds.fund ER (rd m) ringCells ringToks) $$ HX with ⟨Hst, Hr, Hat, Htok⟩
  imodintro
  ihave Hst' := (Entails.of_eq (ringCells_split fun g => roundState ER (rd m) g 0)) $$ Hst
  ihave Hat' := (Entails.of_eq (ringCells_split fun g => atPos ER g 0 ∅ 0)) $$ Hat
  ihave Hr' := (Entails.of_eq (ringCells_split fun g => reached ER g 0)) $$ Hr
  ihave Htok' := toks_dealt $$ Htok
  unfold G; simp only [bigSep_sep']
  isplitl [Hst']; · iexact Hst'
  isplitl [Hat']; · iexact Hat'
  isplitl [Hr'] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep ringSems fun sm => iprop(∃ κ : ℕ, cellInv ER (rd m) κ ((c : Thread nD τ), sm)))
          ∗ (bigSep ringSems fun sm => reached ER ((c : Thread nD τ), sm) 0) ∗ places c ∗ tokens c) := by
  unfold G
  iintro ⟨Hos, Hus, Hst, Hat, Hr, Htok⟩
  ihave Hv := (Entails.of_eq (sems0_eq (F := F) c)) $$ [Hos Hus]
  · isplitl [Hos] <;> iassumption
  imod (show iprop((bigSep ringSems fun sm => semVal ((c : Thread nD τ), sm) 0) ∗ bigSep ringSems fun sm => roundState ER (rd m) ((c : Thread nD τ), sm) 0)
      ⊢ (|={Set.univ}=> bigSep ringSems fun sm => iprop(∃ κ : ℕ, cellInv ER (rd m) κ ((c : Thread nD τ), sm)) : sProp 𝕄) from by
        rw [← bigSep_sep']
        exact (bigSep_mono fun sm _ => (Rounds.body_intro ER (rd m) ((c : Thread nD τ), sm)).trans inv_alloc).trans (bigSep_fupd _ _)) $$ [Hv Hst] with Hinv
  · isplitl [Hv] <;> iassumption
  imodintro
  isplitl [Hinv]; · iexact Hinv
  isplitl [Hr]; · iexact Hr
  isplitl [Hat]
  · iapply (Entails.of_eq (show (bigSep ringSems fun sm => atPos ER ((c : Thread nD τ), sm) 0 ∅ 0 : sProp 𝕄) = places c from cells_split _)) $$ Hat
  iexact Htok

theorem regroup :
    (bigSep Finset.univ fun c : Dev nD => iprop((bigSep ringSems fun sm => iprop(∃ κ : ℕ, cellInv ER (rd m) κ ((c : Thread nD τ), sm)))
          ∗ (bigSep ringSems fun sm => reached ER ((c : Thread nD τ), sm) 0) ∗ places c ∗ tokens c) : sProp 𝕄)
      ⊢ bigSep Finset.univ (G' m) := by
  rw [bigSep_sep', bigSep_sep', ← ringCells_split (fun g => iprop(∃ κ : ℕ, cellInv ER (rd m) κ g)), ← ringCells_split (fun g => reached ER g 0)]
  iintro ⟨HI, HR, Hlin⟩
  ihave HK := (BI.bigSep_exists_pi ringCells (fun (g : GSem nD τ sig) (κ : ℕ) => (cellInv ER (rd m) κ g : sProp 𝕄))) $$ HI
  icases HK with ⟨%K, HI⟩
  ihave #Hrec := (Entails.of_eq (bigSep_sep' ringCells (fun g => cellInv ER (rd m) (K g) g) (fun g => (reached ER g 0 : sProp 𝕄))).symm) $$ [HI HR]
  · isplitl [HI] <;> iassumption
  iapply (bigSep_with_persistent (R := records m K) (S := Finset.univ) (Φ := fun c : Dev nD => iprop(places (F := F) c ∗ tokens c)) fun c _ => by
    unfold G' ghost
    iintro ⟨#HR, Hp, Ht⟩
    iexists K
    isplitr; · iexact HR
    isplitl [Hp] <;> iassumption)
  isplitr
  · unfold records; iexact Hrec
  · iexact Hlin

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the devices owe along one shift is what each finds on its own cell. -/
theorem cred_shift (k : Fin 3) (cell : Dev nD → Dev nD → GSem nD τ sig) (hcell : ∀ c j, (cell c j).1 = (c : Thread nD τ)) (n : ℕ) (c : Dev nD) :
    (Pipeline.launchCred (fun d => tallyAt (cell (peer k d) d) () n) c : sProp 𝕄) = cred (tallyAt (cell c (peer (back k) c)) () n) := by
  refine Pipeline.launchCred_of_sum _ (fun c => tallyAt (cell c (peer (back k) c)) () n) ?_ ?_ c
  · rw [← Equiv.sum_comp (shift k) fun c => (tallyAt (cell c (peer (back k) c)) () n : CellTallies nD τ sig Unit)]
    refine Finset.sum_congr rfl fun d _ => ?_
    show _ = tallyAt (cell (peer k d) (peer (back k) (peer k d))) () n
    rw [back_peer]
  · intro d g hg
    by_contra hne
    exact hg (tallyAt_ne_cell (g := cell d (peer (back k) d)) (g' := g) (fun h => hne (by rw [h]; exact hcell d _)) () n)

theorem creds (c : Dev nD) : (Pipeline.launchCred O₀ c : sProp 𝕄) ⊢ credits c := by
  have hb : (Pipeline.launchCred (fun d => bT d) c : sProp 𝕄) = cred (tallyAt (barCell c) () 1) :=
    Pipeline.launchCred_of_sum _ (fun c => bT c) rfl (fun d g hg => by
      by_contra hne
      exact hg (tallyAt_ne_cell (g := barCell d) (g' := g) (fun h => hne (by rw [h])) () 1)) c
  have he (k : Fin 3) : (Pipeline.launchCred (fun d => eT k d) c : sProp 𝕄) = cred (tallyAt (entryCell c (peer (back k) c)) () 1) :=
    cred_shift k entryCell (fun _ _ => rfl) 1 c
  have hr (k : Fin 3) : (Pipeline.launchCred (fun d => rT k d) c : sProp 𝕄) = cred (tallyAt (recvCell c (peer (back k) c)) () N) :=
    cred_shift k recvCell (fun _ _ => rfl) N c
  rw [show (O₀ : Dev nD → CellTallies nD τ sig Unit) = fun d => 0 + rT 2 d + rT 1 d + rT 0 d + eT 2 d + eT 1 d + eT 0 d + bT d from rfl]
  rw [Pipeline.launchCred_add (fun d => 0 + rT 2 d + rT 1 d + rT 0 d + eT 2 d + eT 1 d + eT 0 d) (fun d => bT d),
    Pipeline.launchCred_add (fun d => 0 + rT 2 d + rT 1 d + rT 0 d + eT 2 d + eT 1 d) (fun d => eT 0 d),
    Pipeline.launchCred_add (fun d => 0 + rT 2 d + rT 1 d + rT 0 d + eT 2 d) (fun d => eT 1 d),
    Pipeline.launchCred_add (fun d => 0 + rT 2 d + rT 1 d + rT 0 d) (fun d => eT 2 d),
    Pipeline.launchCred_add (fun d => 0 + rT 2 d + rT 1 d) (fun d => rT 0 d),
    Pipeline.launchCred_add (fun d => 0 + rT 2 d) (fun d => rT 1 d),
    Pipeline.launchCred_add (fun d => 0) (fun d => rT 2 d), hb, he, he, he, hr, hr, hr]
  unfold credits
  rw [three_split, three_split]
  iintro ⟨⟨⟨⟨⟨⟨⟨-, Hr2⟩, Hr1⟩, Hr0⟩, He2⟩, He1⟩, He0⟩, Hb⟩
  isplitl [Hb]; · iexact Hb
  isplitl [He0 He1 He2]
  · isplitl [He2]; · iexact He2
    isplitl [He1]; · iexact He1
    iexact He0
  isplitl [Hr2]; · iexact Hr2
  isplitl [Hr1]; · iexact Hr1
  iexact Hr0

/-! ## The side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = _ from scopedRest0_eq c]
  unfold Φ₀
  iintro ⟨Hs, -, ⟨%f, Hr⟩⟩
  isplitl [Hs]; · iexact Hs
  iexists f; rw [← slots_split]; iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, show (Pipeline.scopedRest cfg0.spec c : sProp 𝕄) = _ from scopedRest0_eq c]
  unfold Φ₁
  rw [← slots_split c (allW m)]
  iintro ⟨Hr, Hz⟩
  ihave Hz' := (Entails.of_eq ((sems0_eq (F := F) c).trans (cells_split _)).symm) $$ Hz
  icases Hz' with ⟨Ho, Hu⟩
  isplitl [Hu]; · iexact Hu
  isplitl [Ho]; · iexact Ho
  iexists (allW m); iexact Hr

theorem lv_stage (c : Dev nD) (w : Fin cfg0.W) (s : Fin (spec0 w).nbuf) : lv ((c : Thread nD τ), .dma ((spec0 w).sem s)) () = 0 := by
  revert s; revert w; revert c; decide +kernel

theorem waits (c : Dev nD) : (levAts L lv : sProp 𝕄) ⊢ Pipeline.cellsWaits cfgs (dats m) () 0 c :=
  Pipeline.cellsWaits_intro cfgs (dats m) () 0 c fun w s t => by
    refine mayWait_of_above c _ ?_
    rw [show lv _ () = 0 from lv_stage c w s]
    rcases t with ⟨_ | _, ht⟩
    · exact above_O₀ c
    · exact above_zero 0

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters every run ends, with each array at its final contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The output's array ends as the body left its window. -/
theorem finalA_out (c : Dev nD) : finalA m c (5 : Fin 6) = outAt m c :=
  (dats m 0 c).arrAt_eq_of_after_last (5 : Fin 6) t0_0 (by decide +kernel) (outAt m c) fun j => rfl

/-- Every run ends with the output on each device, the arguments as they were, and every counter at zero. -/
theorem run_out : θ_run defs (onTc (τ := τ) (main (F := F))) (s₀ m ρ) (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨(h.1 c (5 : Fin 6)).trans (finalA_out m c),
      (h.1 c (0 : Fin 6)).trans ((dats m 0 c).arrAt_in (0 : Fin 6) rfl _), (h.1 c (1 : Fin 6)).trans ((dats m 0 c).arrAt_in (1 : Fin 6) rfl _),
      (h.1 c (2 : Fin 6)).trans ((dats m 0 c).arrAt_in (2 : Fin 6) rfl _), (h.1 c (3 : Fin 6)).trans ((dats m 0 c).arrAt_in (3 : Fin 6) rfl _),
      (h.1 c (4 : Fin 6)).trans ((dats m 0 c).arrAt_in (4 : Fin 6) rfl _)⟩, h.2⟩) (run_main m ρ)

/-! ## The windows hold whole arrays -/

theorem xV_eq (c : Dev nD) : xV m c = m ((c.tc : Thread nD τ).loc main_arg0) := by
  funext i
  show V m c main_arg0 (((cfg0.win (0 : Fin 6)).blk t0_0).view.emb i) = _
  exact congrArg (V m c main_arg0) (funext fun a => Fin.ext (by fin_cases a <;> (show 0 * _ + 1 * _ = _; omega)))
theorem rV_eq (c : Dev nD) : rV m c = m ((c.tc : Thread nD τ).loc main_arg1) := by
  funext i
  show V m c main_arg1 (((cfg0.win (1 : Fin 6)).blk t0_0).view.emb i) = _
  exact congrArg (V m c main_arg1) (funext fun a => Fin.ext (by fin_cases a <;> (show 0 * _ + 1 * _ = _; omega)))
theorem eV_eq (c : Dev nD) : eV m c = m ((c.tc : Thread nD τ).loc main_arg2) := by
  funext i
  show V m c main_arg2 (((cfg0.win (2 : Fin 6)).blk t0_0).view.emb i) = _
  exact congrArg (V m c main_arg2) (funext fun a => Fin.ext (by fin_cases a <;> (show 0 * _ + 1 * _ = _; omega)))
theorem own_eq (c : Dev nD) : own m c = m ((c.tc : Thread nD τ).loc main_arg3) := by
  funext i
  show V m c main_arg3 (((cfg0.win (3 : Fin 6)).blk t0_0).view.emb i) = _
  exact congrArg (V m c main_arg3) (funext fun a => Fin.ext (by fin_cases a <;> (show 0 * _ + 1 * _ = _; omega)))
theorem sV_eq (c : Dev nD) : sV m c = m ((c.tc : Thread nD τ).loc main_arg4) := by
  funext i
  show V m c main_arg4 (((cfg0.win (4 : Fin 6)).blk t0_0).view.emb i) = _
  exact congrArg (V m c main_arg4) (funext fun a => Fin.ext (by fin_cases a <;> (show 0 * _ + 1 * _ = _; omega)))

end Cert.KernelIdeal.Moe

end
-- ==== Proof.Value.Gate.lean ====
/-
# The softmax probability that weights a token's expert

Over the extended reals: a token's scores are eight numbers; the probability of expert `k` is the exponential of its score less
the largest, divided by the sum of the eight exponentials. Where the scores are real numbers the probability is a nonnegative
real number, so it can be multiplied into a sum term by term.
-/
module

public import Idealize.ShloMosaic.Lib.Pointwise

@[expose] public section

noncomputable section

namespace Cert.Moe

open Idealize.ShloMosaic

/-- The least score there is, from which the largest is sought. -/
abbrev low : EReal := Ideal.ofBits .f32 0xFF800000#32

/-- The probability of expert `k` at the scores `s`. -/
def prob (s : Fin 8 → EReal) (k : Fin 8) : EReal :=
  Ideal.div (Ideal.exp (s k - Finset.fold max low s Finset.univ))
    (∑ j, Ideal.exp (s j - Finset.fold max low s Finset.univ))

/-- An extended real that is a nonnegative real number. -/
def Weight (g : EReal) : Prop := 0 ≤ g ∧ g ≠ ⊤

/-- Zero is one. -/
theorem weight_zero : Weight 0 := ⟨le_refl _, EReal.zero_ne_top⟩

/-- A sum of real numbers is a real number, and which. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of eight real scores is a real number. -/
theorem largest_real (s : Fin 8 → ℝ) : ∃ M : ℝ, Finset.fold max low (fun j => (s j : EReal)) Finset.univ = M := by
  have hlow : low = ⊥ := by
    simp [low, Ideal.ofBits, Ideal.ieee]
  have h : ∀ t : Finset (Fin 8), Finset.fold max low (fun j => (s j : EReal)) t = ⊥ ∨ ∃ M : ℝ, Finset.fold max low (fun j => (s j : EReal)) t = M := by
    intro t
    induction t using Finset.induction_on with
    | empty => left; rw [Finset.fold_empty, hlow]
    | insert a t ha ih =>
      right
      rw [Finset.fold_insert ha]
      rcases ih with h | ⟨M, h⟩
      · exact ⟨s a, by rw [h]; exact max_eq_left bot_le⟩
      · exact ⟨max (s a) M, by rw [h]; exact (EReal.coe_strictMono.monotone.map_max).symm⟩
  rcases h Finset.univ with h | h
  · have h0 : ((s 0 : ℝ) : EReal) ≤ Finset.fold max low (fun j => (s j : EReal)) Finset.univ :=
      Finset.le_fold_max _ |>.mpr (Or.inr ⟨0, Finset.mem_univ _, le_refl _⟩)
    rw [h] at h0
    exact absurd (le_bot_iff.mp h0) (EReal.coe_ne_bot _)
  · exact h

/-- The probabilities of real scores are nonnegative real numbers. -/
theorem prob_weight (s : Fin 8 → EReal) (hs : ∀ k, ∃ r : ℝ, s k = r) (k : Fin 8) : Weight (prob s k) := by
  choose r hr using hs
  obtain rfl : s = fun k => (r k : EReal) := funext hr
  obtain ⟨M, hM⟩ := largest_real r
  have e : ∀ j, Ideal.exp ((r j : EReal) - Finset.fold max low (fun j => (r j : EReal)) Finset.univ) = (Real.exp (r j - M) : ℝ) := fun j => by
    rw [hM, ← EReal.coe_sub]; rfl
  have hS : (∑ j, Ideal.exp ((r j : EReal) - Finset.fold max low (fun j => (r j : EReal)) Finset.univ)) = ((∑ j, Real.exp (r j - M) : ℝ) : EReal) := by
    rw [coe_sum]
    exact Finset.sum_congr rfl fun j _ => e j
  have hpos : 0 < ∑ j, Real.exp (r j - M) := Finset.sum_pos (fun j _ => Real.exp_pos _) ⟨0, Finset.mem_univ _⟩
  unfold prob
  rw [hS, e k, Ideal.div_coe hpos.ne', ← EReal.coe_mul]
  exact ⟨EReal.coe_nonneg.mpr (by positivity), EReal.coe_ne_top _⟩

/-- A nonnegative real factor goes into a sum. -/
theorem weight_mul_sum {ι : Type} (g : EReal) (hg : Weight g) (s : Finset ι) (f : ι → EReal) :
    g * ∑ i ∈ s, f i = ∑ i ∈ s, g * f i := by
  classical
  induction s using Finset.induction_on with
  | empty => simp
  | insert a s ha ih => rw [Finset.sum_insert ha, Finset.sum_insert ha, EReal.left_distrib_of_nonneg_of_ne_top hg.1 hg.2, ih]

/-- A scalar product of real vectors is a real number. -/
theorem dot_real {K : ℕ} (a b : Fin K → EReal) (ha : ∀ k, ∃ r : ℝ, a k = r) (hb : ∀ k, ∃ r : ℝ, b k = r) : ∃ r : ℝ, ∑ k, a k * b k = r := by
  choose p hp using ha
  choose q hq using hb
  refine ⟨∑ k, p k * q k, ?_⟩
  rw [coe_sum]
  exact Finset.sum_congr rfl fun k _ => by rw [hp, hq, EReal.coe_mul]

end Cert.Moe

end
-- ==== Proof.Value.Finite.lean ====
/-
# What the precondition says

The tokens and the router hold real numbers.
-/
module

public import proofs.«01_k».proof.Pre_finite_router_KernelIdeal
public import Idealize.ShloMosaic.Lib.ReduceAll
public import proofs.«01_k».proof.Proof.Value.Gate

@[expose] public section

noncomputable section

namespace Cert.Moe

open Idealize.ShloMosaic

/-- A number whose absolute value is below infinity is real. -/
theorem real_of_abs (y : EReal) (h : Ideal.cmp .olt (max y (-y)) (Ideal.ofBits .f32 0x7F800000#32) = 1#1) : ∃ z : ℝ, y = z := by
  have ht : Ideal.ofBits .f32 0x7F800000#32 = ⊤ := by simp [Ideal.ofBits, Ideal.ieee]
  rw [ht] at h
  induction y with
  | coe z => exact ⟨z, rfl⟩
  | bot => simp [Ideal.cmp] at h
  | top => simp [Ideal.cmp] at h

variable [Cert.Pre_finite_router_KernelIdeal.Facts]

open Cert.Pre_finite_router_KernelIdeal Cert.Pre_finite_router_KernelIdeal.Facts in
/-- Under the precondition the tokens and the router are real. -/
theorem finite_reads (x : FVec Ideal S256x128 .bf16) (r : FVec Ideal S128x8 .bf16) (e : IVec S256x1 32) (w : FVec Ideal S2x128x256 .bf16)
    (s : FVec Ideal S128x256 .bf16) (h : fn x r e w s = fun _ => 1#1) :
    (∀ i, ∃ z : ℝ, x i = z) ∧ ∀ i, ∃ z : ℝ, r i = z := by
  have h0 := congrFun h (fun a => a.elim0)
  have : Subsingleton S_.Idx := ⟨fun a b => funext fun k => k.elim0⟩
  obtain ⟨hx, hr⟩ := IntOp.andi_eq_one.mp h0
  exact ⟨fun i => real_of_abs _ (Host.reduce_andi_all _ _ _ _ _ hx i), fun i => real_of_abs _ (Host.reduce_andi_all _ _ _ _ _ hr i)⟩

end Cert.Moe

end
-- ==== Proof.Value.Kern.lean ====
/-
# What the kernel computes, read at an index

Every slot the kernel fills is a token's row times one expert's gate (and a scale); the result is the shared product and, for
each of the eight experts, a scalar product of a slot with that expert's weights.
-/
module

public import proofs.«01_k».proof.Proof.KernelIdeal.Data
public import proofs.«01_k».proof.Proof.Value.Gate

@[expose] public section

noncomputable section

namespace Cert.Moe

open Cert.KernelIdeal Cert.KernelIdeal.Gen Cert.KernelIdeal.Moe
open Idealize.ShloMosaic

/-- The pattern of one sixteenth. -/
abbrev sixteenth : EReal := Ideal.ofBits .f32 1031798784#32
/-- The pattern of sixteen. -/
abbrev sixteen : EReal := Ideal.ofBits .bf16 0x4180#16

variable (x : FVec Ideal S256x128 .bf16) (r : FVec Ideal S128x8 .bf16) (e : IVec S256x1 32) (g : FVec Ideal S256x8 .f32) (w : BitVec 32)
  (n : Fin 256) (d : Fin 128) (f : Fin 256)

/-- The scores of token `n`. -/
def score (k : Fin 8) : EReal := ∑ d : Fin 128, x (ix2 n d) * r (ix2 d k)

/-- The gates of token `n`, picked out at the column whose number is `w`. -/
def pick : EReal :=
  ∑ k : Fin 8, Scalar.select (IntOp.cmpi .eq (BitVec.ofNat 32 k.val) w) (g (ix2 n k)) 0

set_option maxRecDepth 16384 in
/-- The kernel's gates: the chosen expert's probability, and zero elsewhere. -/
theorem pay2_apply (k : Fin 8) : k0_pay2 (F := Ideal) x r e (ix2 n k)
    = Scalar.select (IntOp.cmpi .eq (BitVec.ofNat 32 k.val) (e (ix2 n 0))) (prob (score x r n) k) 0 := by
  pointwise [k0_pay2]
  rfl

set_option maxRecDepth 16384 in
/-- A slot of the token's row: the row times the gate at the column numbered `w`, times one sixteenth. -/
theorem pay5_apply : k0_pay5 (F := Ideal) cols g x w (ix2 n d) = x (ix2 n d) * (pick g w n * sixteenth) := by
  pointwise [k0_pay5, cols]
  rfl

/-- The tokens are used as they are. -/
theorem pay3_eq : k0_pay3 (F := Ideal) x = x := by
  pointwise [k0_pay3]

/-- The first peer's first slot. -/
theorem pay4_eq : k0_pay4 (F := Ideal) w x r e x = k0_pay5 cols (k0_pay2 x r e) (k0_pay3 x) (Scalar.addi (Scalar.muli w 2#32) 0#32) := rfl
/-- The second peer's first slot. -/
theorem pay6_eq : k0_pay6 (F := Ideal) w cols g x = k0_pay5 cols g x (Scalar.addi (Scalar.muli w 2#32) 0#32) := rfl
/-- The second peer's second slot. -/
theorem pay7_eq : k0_pay7 (F := Ideal) w cols g x = k0_pay5 cols g x (Scalar.addi (Scalar.muli w 2#32) 1#32) := rfl
/-- The third peer's first slot. -/
theorem pay9_eq : k0_pay9 (F := Ideal) x (k0_pay8 w cols g) = k0_pay5 cols g x (Scalar.addi (Scalar.muli w 2#32) 0#32) := rfl
/-- The third peer's second slot. -/
theorem pay10_eq : k0_pay10 (F := Ideal) w cols g x = k0_pay5 cols g x (Scalar.addi (Scalar.muli w 2#32) 1#32) := rfl

set_option maxRecDepth 16384 in
/-- The slot for the device's own first expert: no scale. -/
theorem pay11_apply : k0_pay11 (F := Ideal) w cols g x (ix2 n d) = x (ix2 n d) * pick g (Scalar.addi (Scalar.muli w 2#32) 0#32) n := by
  pointwise [k0_pay11, cols]
  rfl

set_option maxRecDepth 16384 in
/-- The gate for the device's own second expert. -/
theorem pay12_apply : k0_pay12 (F := Ideal) w cols g (ix2 n 0) = pick g (Scalar.addi (Scalar.muli w 2#32) 1#32) n := by
  pointwise [k0_pay12, cols]
  rfl

section Products
variable (a b c : FVec Ideal S256x128 .bf16) (h : FVec Ideal S256x1 .bf16) (acc : FVec Ideal S256x256 .f32)
  (s : FVec Ideal S128x256 .bf16) (o0 o1 : FVec Ideal S1x128x256 .bf16) (p0 p1 : FVec Ideal S1x1x128x256 .fp8e4m3)

set_option maxRecDepth 16384 in
/-- The sum so far: the shared product, the two experts the device holds, and the first peer's first expert. -/
theorem pay13_apply : k0_pay13 x b a h s o0 o1 p0 (ix2 n f)
    = ∑ d : Fin 128, x (ix2 n d) * s (ix2 d f) + ∑ d : Fin 128, a (ix2 n d) * o0 (ix3 0 d f)
      + ∑ d : Fin 128, x (ix2 n d) * h (ix2 n 0) * o1 (ix3 0 d f) + ∑ d : Fin 128, b (ix2 n d) * p0 (ix4 0 0 d f) := by
  pointwise [k0_pay13]

set_option maxRecDepth 16384 in
/-- The first peer's second expert, as a matrix. -/
theorem pay14_apply : k0_pay14 (F := Ideal) p0 (ix2 d f) = (p0 (ix4 0 0 d f) : EReal) := by
  pointwise [k0_pay14]

set_option maxRecDepth 16384 in
/-- The sum so far, and the first peer's second expert, and the third peer's two. -/
theorem pay15_apply : k0_pay15 a b c acc s (constant S256x256 .f32 0x00000000#32) p0 p1 (ix2 n f)
    = acc (ix2 n f) + ∑ d : Fin 128, a (ix2 n d) * s (ix2 d f) + ∑ d : Fin 128, b (ix2 n d) * p0 (ix4 0 0 d f)
      + ∑ d : Fin 128, c (ix2 n d) * p1 (ix4 0 0 d f) := by
  pointwise [k0_pay15]

set_option maxRecDepth 16384 in
/-- The sum so far, and the second peer's two. -/
theorem pay16_apply : k0_pay16 a b acc p0 p1 (ix2 n f)
    = acc (ix2 n f) + ∑ d : Fin 128, a (ix2 n d) * p0 (ix4 0 0 d f) + ∑ d : Fin 128, b (ix2 n d) * p1 (ix4 0 0 d f) := by
  pointwise [k0_pay16]

end Products

set_option maxRecDepth 16384 in
/-- A device sends its experts sixteenfold. -/
theorem pay1_apply (o : FVec Ideal S2x128x256 .bf16) (i : Fin 2) :
    k0_pay1 (F := Ideal) o (ix4 0 i d f) = o (ix3 i d f) * sixteen := by
  pointwise [k0_pay1]

/-- A word times two, and a half. -/
abbrev half (w : BitVec 32) (j : BitVec 32) : BitVec 32 := Scalar.addi (Scalar.muli w 2#32) j

/-- The kernel's result at an index. -/
theorem outV_apply (w0 w1 w2 w3 : BitVec 32) (o0 o1 : FVec Ideal S1x128x256 .bf16) (s : FVec Ideal S128x256 .bf16)
    (p0 p1 q0 q1 r0 r1 : FVec Ideal S1x1x128x256 .fp8e4m3) :
    outV (F := Ideal) w0 w1 w2 w3 x r e o0 o1 s p0 p1 q0 q1 r0 r1 (ix2 n f)
      = ∑ d : Fin 128, x (ix2 n d) * s (ix2 d f)
        + ∑ d : Fin 128, x (ix2 n d) * pick (k0_pay2 x r e) (half w0 0#32) n * o0 (ix3 0 d f)
        + ∑ d : Fin 128, x (ix2 n d) * pick (k0_pay2 x r e) (half w0 1#32) n * o1 (ix3 0 d f)
        + ∑ d : Fin 128, x (ix2 n d) * (pick (k0_pay2 x r e) (half w1 0#32) n * sixteenth) * p0 (ix4 0 0 d f)
        + ∑ d : Fin 128, x (ix2 n d) * (pick (k0_pay2 x r e) (half w1 1#32) n * sixteenth) * p1 (ix4 0 0 d f)
        + ∑ d : Fin 128, x (ix2 n d) * (pick (k0_pay2 x r e) (half w3 0#32) n * sixteenth) * r0 (ix4 0 0 d f)
        + ∑ d : Fin 128, x (ix2 n d) * (pick (k0_pay2 x r e) (half w3 1#32) n * sixteenth) * r1 (ix4 0 0 d f)
        + ∑ d : Fin 128, x (ix2 n d) * (pick (k0_pay2 x r e) (half w2 0#32) n * sixteenth) * q0 (ix4 0 0 d f)
        + ∑ d : Fin 128, x (ix2 n d) * (pick (k0_pay2 x r e) (half w2 1#32) n * sixteenth) * q1 (ix4 0 0 d f) := by
  unfold outV
  rw [pay16_apply, pay15_apply, pay13_apply, pay4_eq, pay6_eq, pay7_eq, pay9_eq, pay10_eq]
  simp only [pay3_eq, pay5_apply, pay11_apply, pay12_apply, pay14_apply, half]

end Cert.Moe

end
-- ==== Proof.Value.Ref.lean ====
/-
# What the reference computes, read at an index
-/
module

public import proofs.«01_k».proof.Proof.Gen.ReferenceIdeal.Run
public import proofs.«01_k».proof.Proof.Value.Gate

@[expose] public section

noncomputable section

namespace Cert.Moe.Ref

open Cert.ReferenceIdeal Cert.ReferenceIdeal.Gen
open Idealize.ShloMosaic

/-! ## The two table reads -/

/-- A number below `2 ^ 31`, read as a signed word. -/
theorem toInt_small (k : ℕ) (h : k < 2 ^ 31) : (BitVec.ofNat 32 k).toInt = (k : ℤ) := by
  rw [BitVec.toInt_eq_toNat_of_lt (by rw [BitVec.toNat_ofNat]; omega), BitVec.toNat_ofNat]
  omega

/-- A start index that is in range stays as it is. -/
theorem clamp {t : Shape} (i : IVec t 32) (q q' : t.Idx) (hq : q = q') (k N : ℕ) (hk : k ≤ N) (hs : k < 2 ^ 31) (h : i q' = BitVec.ofNat 32 k) :
    min (i q).toInt.toNat N = k := by
  rw [hq, h, toInt_small k hs]
  omega

/-- The probability read at a token and an expert. -/
theorem read_prob (p : FVec Ideal S256x8 .f32) (i : IVec S256x2 32) (n : Fin 256) (k : Fin 8)
    (h0 : i (ix2 n 0) = BitVec.ofNat 32 n.val) (h1 : i (ix2 n 1) = BitVec.ofNat 32 k.val) :
    Host.gather gather_S256x8_S256x2_S256_n_01_n_n_01_1_11 p i (ix1 n) = p (ix2 n k) := by
  unfold Host.gather
  congr 1
  funext a
  refine Fin.ext ?_
  change GatherDims.start _ _ _ _ + GatherDims.batchCoord _ _ _ + GatherDims.offCoord _ _ _ = _
  rw [GatherDims.batchCoord_eq_zero _ _ _ List.not_mem_nil,
    GatherDims.offCoord_eq_zero _ _ _ (fun h => ((GatherDims.mem_sKept _ _).mp h).1 (by fin_cases a <;> decide))]
  simp only [Nat.add_zero]
  unfold GatherDims.start
  rw [dif_pos (by fin_cases a <;> decide)]
  have h01 : a = 0 ∨ a = 1 := by
    match a with
    | ⟨0, _⟩ => exact Or.inl rfl
    | ⟨1, _⟩ => exact Or.inr rfl
  rcases h01 with rfl | rfl
  · refine clamp i _ (ix2 n 0) ?_ n.val 255 (by omega) (by omega) h0
    funext b; refine Fin.ext ?_
    match b with
    | ⟨0, _⟩ => rfl
    | ⟨1, _⟩ => rfl
  · refine clamp i _ (ix2 n 1) ?_ k.val 7 (by omega) (by omega) h1
    funext b; refine Fin.ext ?_
    match b with
    | ⟨0, _⟩ => rfl
    | ⟨1, _⟩ => rfl

/-- A weight read at an expert. -/
theorem read_weight (W : FVec Ideal S8x128x256 .f32) (i : IVec S256x1 32) (n : Fin 256) (d : Fin 128) (f : Fin 256) (k : Fin 8)
    (h : i (ix2 n 0) = BitVec.ofNat 32 k.val) :
    Host.gather gather_S8x128x256_S256x1_S256x128x256_12_0_n_n_0_1_1128256 W i (ix3 n d f) = W (ix3 k d f) := by
  unfold Host.gather
  congr 1
  funext a
  refine Fin.ext ?_
  change GatherDims.start _ _ _ _ + GatherDims.batchCoord _ _ _ + GatherDims.offCoord _ _ _ = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (by decide))]
    unfold GatherDims.start
    rw [dif_pos (by decide)]
    refine clamp i _ (ix2 n 0) ?_ k.val 7 (by omega) (by omega) h
    funext b; refine Fin.ext ?_
    match b with
    | ⟨0, _⟩ => rfl
    | ⟨1, _⟩ => rfl
  · unfold GatherDims.start GatherDims.offCoord
    rw [dif_neg (by decide), dif_pos (by decide)]
    exact Nat.zero_add _
  · unfold GatherDims.start GatherDims.offCoord
    rw [dif_neg (by decide), dif_pos (by decide)]
    exact Nat.zero_add _

/-! ## The reference, part by part -/

variable (x : FVec Ideal S256x128 .bf16) (r : FVec Ideal S128x8 .bf16) (e : IVec S256x1 32) (W : FVec Ideal S8x128x256 .bf16)
  (s : FVec Ideal S128x256 .bf16) (n : Fin 256)

/-- The scores. -/
def scores : FVec Ideal S256x8 .f32 :=
  Host.dotGeneral dot_S256x128_S128x8_S256x8_1_0_0_1_n_n none (extf .f32 x bitsLt_bf16_f32) (extf .f32 r bitsLt_bf16_f32)
/-- The exponentials of the scores less the largest. -/
def exps : FVec Ideal S256x8 .f32 :=
  Host.exp (subf (scores x r) (broadcastInDim S256x8 ![0, 1] bcast_S256x1_S256x8_0_1 (broadcastInDim S256x1 ![0] bcast_S256_S256x1_0
    (Host.reduce FloatOps.maximumf (scores x r) (constant S_ .f32 0xFF800000#32) reducesTo_S256x8_S256_d1 h_S_))))
/-- The probabilities. -/
def probs : FVec Ideal S256x8 .f32 :=
  Host.divf (exps x r) (broadcastInDim S256x8 ![0, 1] bcast_S256x1_S256x8_0_1 (broadcastInDim S256x1 ![0] bcast_S256_S256x1_0
    (Host.reduceAdd (exps x r) (constant S_ .f32 0x00000000#32) reducesTo_S256x8_S256_d1 h_S_)))
/-- The expert numbers, as a vector. -/
def chosen : IVec S256 32 := shapeCast S256 e shapeCasts_S256x1_S256
/-- The expert numbers, a negative one counted from the end. -/
def wrapped : IVec S256 32 :=
  select (cmpi .slt (chosen e) (broadcastInDim S256 ![] bcast_S_S256 (constantI S_ 32 0#32)))
    (addi (chosen e) (broadcastInDim S256 ![] bcast_S_S256 (constantI S_ 32 8#32))) (chosen e)
/-- The token numbers. -/
def rows : IVec S256 32 :=
  select (cmpi .slt (iotaInDim S256 32 0) (broadcastInDim S256 ![] bcast_S_S256 (constantI S_ 32 0#32)))
    (addi (iotaInDim S256 32 0) (broadcastInDim S256 ![] bcast_S_S256 (constantI S_ 32 256#32))) (iotaInDim S256 32 0)
/-- Token and expert numbers, side by side. -/
def places : IVec S256x2 32 :=
  concatenate S256x2 1 [⟨S256x1, broadcastInDim S256x1 ![0] bcast_S256_S256x1_0 rows⟩,
    ⟨S256x1, broadcastInDim S256x1 ![0] bcast_S256_S256x1_0 (wrapped e)⟩] concatenates_S256x1_S256x1_S256x2_d1
/-- The gates. -/
def gates : FVec Ideal S256 .f32 :=
  select (andi (cmpi .sge (chosen e) (broadcastInDim S256 ![] bcast_S_S256 (constantI S_ 32 0#32)))
      (cmpi .slt (chosen e) (broadcastInDim S256 ![] bcast_S_S256 (constantI S_ 32 8#32))))
    (Host.gather gather_S256x8_S256x2_S256_n_01_n_n_01_1_11 (probs x r) (places e))
    (broadcastInDim S256 ![] bcast_S_S256 (id (constant S_ .f32 0x00000000#32)))
/-- The chosen experts' weights, a matrix for each token. -/
def picked : FVec Ideal S256x128x256 .f32 :=
  Host.gather gather_S8x128x256_S256x1_S256x128x256_12_0_n_n_0_1_1128256 (extf .f32 W bitsLt_bf16_f32)
    (broadcastInDim S256x1 ![0] bcast_S256_S256x1_0 (wrapped e))
/-- The result, of the gates and the weights. -/
def combine (g : FVec Ideal S256 .f32) (w : FVec Ideal S256x128x256 .f32) : FVec Ideal S256x256 .bf16 :=
  truncf .bf16 (addf (Host.dotGeneral dot_S256x128_S128x256_S256x256_1_0_0_1_n_n none (extf .f32 x bitsLt_bf16_f32) (extf .f32 s bitsLt_bf16_f32))
    (mulf (broadcastInDim S256x256 ![0, 1] bcast_S256x1_S256x256_0_1 (broadcastInDim S256x1 ![0] bcast_S256_S256x1_0 g))
      (Host.dotGeneral dot_S256x128_S256x128x256_S256x256_1_1_n_2_0_0 none (extf .f32 x bitsLt_bf16_f32) w))) bitsLt_bf16_f32
/-- The result. -/
def result : FVec Ideal S256x256 .bf16 := combine x s (gates x r e) (picked e W)

set_option maxRecDepth 16384 in
/-- The combination at an index. -/
theorem combine_apply (g : FVec Ideal S256 .f32) (w : FVec Ideal S256x128x256 .f32) (f : Fin 256) :
    combine x s g w (ix2 n f) = ∑ d : Fin 128, x (ix2 n d) * s (ix2 d f) + g (ix1 n) * ∑ d : Fin 128, x (ix2 n d) * w (ix3 n d f) := by
  pointwise [combine]

set_option maxRecDepth 16384 in
/-- The probabilities at an index. -/
theorem probs_apply (k : Fin 8) : probs x r (ix2 n k) = prob (fun k => ∑ d : Fin 128, x (ix2 n d) * r (ix2 d k)) k := by
  pointwise [probs, exps, scores]
  rfl

/-- A token's expert number, wrapped. -/
theorem wrapped_apply : wrapped e (ix1 n)
    = Scalar.select (IntOp.cmpi .slt (e (ix2 n 0)) 0#32) (IntOp.addi (e (ix2 n 0)) 8#32) (e (ix2 n 0)) := by
  pointwise [wrapped, chosen]

/-- The left column holds the token numbers. -/
theorem places_left : places e (ix2 n 0) = rows (ix1 n) := by
  pointwise [places]

/-- The right column holds the expert numbers. -/
theorem places_right : places e (ix2 n 1) = wrapped e (ix1 n) := by
  pointwise [places]

/-- A token's number is itself. -/
theorem rows_apply : rows (ix1 n) = BitVec.ofNat 32 n.val := by
  pointwise [rows]
  have h : IntOp.cmpi .slt (BitVec.ofNat 32 n.val) 0#32 = 0#1 := by
    have : ∀ n : Fin 256, IntOp.cmpi .slt (BitVec.ofNat 32 n.val) 0#32 = 0#1 := by decide +kernel
    exact this n
  rw [h]
  rfl

/-- A token's gate: the probability read for it, where its expert is one of the eight. -/
theorem gates_apply : gates x r e (ix1 n) = Scalar.select (IntOp.andi (IntOp.cmpi .sge (e (ix2 n 0)) 0#32) (IntOp.cmpi .slt (e (ix2 n 0)) 8#32))
    (Host.gather gather_S256x8_S256x2_S256_n_01_n_n_01_1_11 (probs x r) (places e) (ix1 n)) 0 := by
  pointwise [gates, chosen, id]

/-- An expert's number stands for itself. -/
theorem wrapped_of (k : Fin 8) (h : e (ix2 n 0) = BitVec.ofNat 32 k.val) : wrapped e (ix1 n) = BitVec.ofNat 32 k.val := by
  rw [wrapped_apply, h]
  fin_cases k <;> decide

/-- Where a token's expert is one of the eight, its gate is that expert's probability. -/
theorem gate_known (k : Fin 8) (h : e (ix2 n 0) = BitVec.ofNat 32 k.val) :
    gates x r e (ix1 n) = prob (fun k => ∑ d : Fin 128, x (ix2 n d) * r (ix2 d k)) k := by
  rw [gates_apply, read_prob _ _ n k (by rw [places_left, rows_apply]) (by rw [places_right, wrapped_of e n k h]), h,
    show IntOp.andi (IntOp.cmpi .sge (BitVec.ofNat 32 k.val) 0#32) (IntOp.cmpi .slt (BitVec.ofNat 32 k.val) 8#32) = 1#1 from by fin_cases k <;> decide]
  exact probs_apply x r n k

/-- A word that is at least zero and below eight is one of the eight numbers. -/
theorem in_range (v : BitVec 32) (h0 : (0#32).sle v = true) (h8 : v.slt 8#32 = true) : v.toNat < 8 := by
  rw [BitVec.sle_iff_toInt_le] at h0
  rw [BitVec.slt_iff_toInt_lt] at h8
  have e0 : (0#32 : BitVec 32).toInt = 0 := by decide
  have e8 : (8#32 : BitVec 32).toInt = 8 := by decide
  have hv := v.isLt
  rw [e0, BitVec.toInt_eq_toNat_cond] at h0
  rw [e8, BitVec.toInt_eq_toNat_cond] at h8
  split at h0 <;> omega

/-- Where it is none of them, the gate is zero. -/
theorem gate_unknown (h : ∀ k : Fin 8, e (ix2 n 0) ≠ BitVec.ofNat 32 k.val) : gates x r e (ix1 n) = 0 := by
  rw [gates_apply]
  have hz : IntOp.andi (IntOp.cmpi .sge (e (ix2 n 0)) 0#32) (IntOp.cmpi .slt (e (ix2 n 0)) 8#32) = 0#1 := by
    by_contra hc
    obtain ⟨h0, h8⟩ : (0#32).sle (e (ix2 n 0)) = true ∧ (e (ix2 n 0)).slt 8#32 = true := by
      unfold IntOp.andi IntOp.cmpi at hc
      cases h1 : (0#32).sle (e (ix2 n 0)) <;> cases h2 : (e (ix2 n 0)).slt 8#32 <;> simp [h1, h2] at hc ⊢
    have hlt := in_range _ h0 h8
    exact h ⟨(e (ix2 n 0)).toNat, hlt⟩ (BitVec.eq_of_toNat_eq (by rw [BitVec.toNat_ofNat]; change _ = (e (ix2 n 0)).toNat % 2 ^ 32; omega))
  rw [hz]
  rfl

/-- The result at an index, where the token's expert is one of the eight. -/
theorem result_known (f : Fin 256) (k : Fin 8) (h : e (ix2 n 0) = BitVec.ofNat 32 k.val) :
    result x r e W s (ix2 n f) = ∑ d : Fin 128, x (ix2 n d) * s (ix2 d f)
      + prob (fun k => ∑ d : Fin 128, x (ix2 n d) * r (ix2 d k)) k * ∑ d : Fin 128, x (ix2 n d) * W (ix3 k d f) := by
  have hw : ∀ d : Fin 128, picked e W (ix3 n d f) = W (ix3 k d f) := fun d =>
    read_weight _ _ n d f k (by
      rw [← wrapped_of e n k h]
      pointwise [])
  unfold result
  rw [combine_apply, gate_known x r e n k h]
  simp only [hw]

/-- The result at an index, where it is none of them: the shared product. -/
theorem result_unknown (f : Fin 256) (h : ∀ k : Fin 8, e (ix2 n 0) ≠ BitVec.ofNat 32 k.val) :
    result x r e W s (ix2 n f) = ∑ d : Fin 128, x (ix2 n d) * s (ix2 d f) := by
  unfold result
  rw [combine_apply, gate_unknown x r e n h, zero_mul, add_zero]

end Cert.Moe.Ref

end
-- ==== Proof.Value.Equal.lean ====
/-
# The kernel's result is the reference's

Both are the shared product and, for each of the eight experts, the token's gate at that expert times the expert's product. The
kernel adds the experts in an order that depends on the device and weights the token before it multiplies; the scale it puts on
the weights it sends and the inverse scale it puts on the gate cancel.
-/
module

public import proofs.«01_k».proof.Proof.KernelIdeal.Launch
public import proofs.«01_k».proof.Proof.Value.Kern
public import proofs.«01_k».proof.Proof.Value.Ref

@[expose] public section

noncomputable section

namespace Cert.Moe

open Cert.KernelIdeal Cert.KernelIdeal.Gen Cert.KernelIdeal.Moe
open Idealize.ShloMosaic

/-! ## Gates and experts -/

/-- Expert `j` of device `p`. -/
def expert (p : Dev nD) (j : Fin 2) : Fin 8 := ⟨2 * p.val + j.val, by have hp : p.val < 4 := p.isLt; have hj := j.isLt; omega⟩

section At
variable (x : FVec Ideal S256x128 .bf16) (r : FVec Ideal S128x8 .bf16) (e : IVec S256x1 32) (W : (⟨3, ![8, 128, 256]⟩ : Shape).Idx → EReal)
  (s : FVec Ideal S128x256 .bf16) (n : Fin 256) (f : Fin 256)

/-- Token `n`'s gate at expert `k`. -/
def gate (k : Fin 8) : EReal := if e (ix2 n 0) = BitVec.ofNat 32 k.val then prob (score x r n) k else 0

/-- Token `n`'s product with expert `k`. -/
def product (k : Fin 8) : EReal := ∑ d : Fin 128, x (ix2 n d) * W (ix3 k d f)

/-- The result at an index. -/
def total : EReal := ∑ d : Fin 128, x (ix2 n d) * s (ix2 d f) + ∑ k : Fin 8, gate x r e n k * product x W n f k

/-- The two words a device's number gives are the numbers of its two experts. -/
theorem half_word (p : Dev nD) : half (word p) 0#32 = BitVec.ofNat 32 (expert p 0).val ∧ half (word p) 1#32 = BitVec.ofNat 32 (expert p 1).val := by
  revert p; decide

/-- Expert numbers are equal as words just where they are equal. -/
theorem word_inj (a b : Fin 8) : IntOp.cmpi .eq (BitVec.ofNat 32 a.val) (BitVec.ofNat 32 b.val) = BitVec.ofBool (decide (a = b)) := by
  revert a b; decide

/-- The gates picked at an expert's column are the gate at that expert. -/
theorem pick_gate (k : Fin 8) : pick (k0_pay2 x r e) (BitVec.ofNat 32 k.val) n = gate x r e n k := by
  unfold pick
  rw [Finset.sum_eq_single k]
  · rw [word_inj, pay2_apply]
    unfold gate IntOp.cmpi
    by_cases h : e (ix2 n 0) = BitVec.ofNat 32 k.val
    · rw [if_pos h, h]; simp [Scalar.select]
    · have h' : (BitVec.ofNat 32 k.val == e (ix2 n 0)) = false := beq_eq_false_iff_ne.mpr fun q => h q.symm
      rw [if_neg h]; simp [Scalar.select, h']
  · intro j _ hj
    rw [word_inj]; simp [Scalar.select, hj]
  · intro h; exact absurd (Finset.mem_univ k) h

/-- With real tokens and a real router every gate is a nonnegative real number. -/
theorem gate_weight (hx : ∀ i, ∃ z : ℝ, x i = z) (hr : ∀ i, ∃ z : ℝ, r i = z) (k : Fin 8) : Weight (gate x r e n k) := by
  unfold gate
  split
  · exact prob_weight _ (fun j => dot_real _ _ (fun d => hx _) fun d => hr _) k
  · exact weight_zero

/-- One sixteenth of sixteen. -/
theorem scales : sixteenth * sixteen = 1 := by
  have h1 : sixteenth = (((1 : ℝ) / 16 : ℝ) : EReal) := by simp [Ideal.ofBits, Ideal.ieee, -EReal.coe_mul]; norm_num
  have h2 : sixteen = ((16 : ℝ) : EReal) := by simp [Ideal.ofBits, Ideal.ieee, -EReal.coe_mul]; norm_num
  rw [h1, h2, ← EReal.coe_mul]
  norm_num

/-- The products with an expert the device holds. -/
theorem local_term {g : EReal} (hg : Weight g) (a w : Fin 128 → EReal) : ∑ d, a d * g * w d = g * ∑ d, a d * w d := by
  rw [weight_mul_sum g hg]
  exact Finset.sum_congr rfl fun d _ => by rw [mul_comm (a d) g, mul_assoc]

/-- The products with an expert that was sent. -/
theorem remote_term {g : EReal} (hg : Weight g) (a w : Fin 128 → EReal) :
    ∑ d, a d * (g * sixteenth) * (w d * sixteen) = g * ∑ d, a d * w d := by
  rw [weight_mul_sum g hg]
  refine Finset.sum_congr rfl fun d _ => ?_
  calc a d * (g * sixteenth) * (w d * sixteen) = g * (a d * w d) * (sixteenth * sixteen) := by ac_rfl
    _ = g * (a d * w d) := by rw [scales, mul_one]

/-- A device's own experts and then its peers', in the order the kernel adds them, are all eight. -/
theorem order (U : Fin 8 → EReal) (a : EReal) (c : Dev nD) :
    a + U (expert c 0) + U (expert c 1) + U (expert (peer 0 c) 0) + U (expert (peer 0 c) 1) + U (expert (peer 2 c) 0)
      + U (expert (peer 2 c) 1) + U (expert (peer 1 c) 0) + U (expert (peer 1 c) 1) = a + ∑ k, U k := by
  rw [Fin.sum_univ_eight]
  have h : c = 0 ∨ c = 1 ∨ c = 2 ∨ c = 3 := by revert c; decide
  rcases h with rfl | rfl | rfl | rfl
  · change a + U 0 + U 1 + U 2 + U 3 + U 6 + U 7 + U 4 + U 5 = _; abel
  · change a + U 2 + U 3 + U 4 + U 5 + U 0 + U 1 + U 6 + U 7 = _; abel
  · change a + U 4 + U 5 + U 6 + U 7 + U 2 + U 3 + U 0 + U 1 = _; abel
  · change a + U 6 + U 7 + U 0 + U 1 + U 4 + U 5 + U 2 + U 3 = _; abel

/-- The reference's result is the total. -/
theorem result_total : Ref.result x r e W s (ix2 n f) = total x r e W s n f := by
  unfold total
  by_cases h : ∃ k : Fin 8, e (ix2 n 0) = BitVec.ofNat 32 k.val
  · obtain ⟨k, hk⟩ := h
    rw [Ref.result_known x r e W s n f k hk, Finset.sum_eq_single k]
    · unfold gate product; rw [if_pos hk]; rfl
    · intro j _ hj
      have hne : ¬ e (ix2 n 0) = BitVec.ofNat 32 j.val := fun q => by
        have hq := word_inj j k
        rw [← q, hk] at hq
        simp [IntOp.cmpi, hj] at hq
      unfold gate; rw [if_neg hne, zero_mul]
    · intro q; exact absurd (Finset.mem_univ k) q
  · have hn : ∀ k : Fin 8, e (ix2 n 0) ≠ BitVec.ofNat 32 k.val := fun k q => h ⟨k, q⟩
    have hz : ∑ k : Fin 8, gate x r e n k * product x W n f k = 0 := Finset.sum_eq_zero fun k _ => by
      unfold gate; rw [if_neg (hn k), zero_mul]
    rw [Ref.result_unknown x r e W s n f hn, hz, add_zero]

end At

/-! ## The kernel's result on each device -/

/-- The experts are cut into four pairs. -/
theorem pairs : Layout.Tiles ⟨3, ![2, 128, 256]⟩ ⟨3, ![8, 128, 256]⟩ 0 4 := by decide

section Device
variable (m : (ℓ : Loc nD τ sig) → Buf (Elt Ideal) ℓ) (W : (⟨3, ![8, 128, 256]⟩ : Shape).Idx → EReal)
  (hW : ∀ c : Dev nD, own m c = Layout.block ⟨3, ![2, 128, 256]⟩ ⟨3, ![8, 128, 256]⟩ 0 4 c W pairs)

include hW

/-- A device's expert among all the experts. -/
theorem own_at (c : Dev nD) (j : Fin 2) (d : Fin 128) (f : Fin 256) : own m c (ix3 j d f) = W (ix3 (expert c j) d f) := by
  rw [hW c, Layout.block_apply]
  refine congrArg W (funext fun a => Fin.ext ?_)
  rw [Layout.Tiles.idx_val]
  match a with
  | ⟨0, _⟩ => show c.val * 2 + j.val = 2 * c.val + j.val; omega
  | ⟨1, _⟩ => rfl
  | ⟨2, _⟩ => rfl

/-- One of a device's own experts, as the kernel loads it. -/
theorem ownOne_at (c : Dev nD) (j : Fin 2) (d : Fin 128) (f : Fin 256) : ownOne m c j (ix3 0 d f) = W (ix3 (expert c j) d f) :=
  own_at m W hW c j d f

/-- An expert a device received: the expert of the sender, sixteenfold. -/
theorem slab_at (c : Dev nD) (j : Fin 2) (d : Fin 128) (f : Fin 256) : slab m c j (ix4 0 0 d f) = (W (ix3 (expert c j) d f) * sixteen : EReal) := by
  rw [← own_at m W hW c j d f]
  exact pay1_apply d f (own m c) j

/-- On every device the kernel's result is the total. -/
theorem outAt_total (c : Dev nD) (x : FVec Ideal S256x128 .bf16) (r : FVec Ideal S128x8 .bf16) (e : IVec S256x1 32) (s : FVec Ideal S128x256 .bf16)
    (ex : xV m c = x) (er : rV m c = r) (ee : eV m c = e) (es : sV m c = s) (hx : ∀ i, ∃ z : ℝ, x i = z) (hr : ∀ i, ∃ z : ℝ, r i = z)
    (n f : Fin 256) : outAt m c (ix2 n f) = total x r e W s n f := by
  have hg := gate_weight x r e n hx hr
  have hl : ∀ j, ∑ d : Fin 128, x (ix2 n d) * gate x r e n (expert c j) * ownOne m c j (ix3 0 d f) = gate x r e n (expert c j) * product x W n f (expert c j) := fun j => by
    simp only [ownOne_at m W hW]
    exact local_term (hg _) _ _
  have hs : ∀ p j, ∑ d : Fin 128, x (ix2 n d) * (gate x r e n (expert p j) * sixteenth) * (slab m p j (ix4 0 0 d f) : EReal) = gate x r e n (expert p j) * product x W n f (expert p j) := fun p j => by
    simp only [slab_at m W hW]
    exact remote_term (hg _) _ _
  unfold outAt
  rw [ex, er, ee, es, outV_apply]
  simp only [(half_word _).1, (half_word _).2, pick_gate]
  rw [hl 0, hl 1, hs, hs, hs, hs, hs, hs]
  exact order (fun k => gate x r e n k * product x W n f k) _ c

end Device

end Cert.Moe

end
-- ==== Proof.lean ====
/-
# The certificate

The kernel and its idealized form run, leave their arguments as they were and every counter at zero; so does the reference; and
where the tokens and the router are finite, the idealized kernel ends on every device with the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_router_KernelIdeal
public import proofs.«01_k».proof.Proof.Gen.Pre_finite_router_ReferenceIdeal
public import proofs.«01_k».proof.Proof.Kernel.Launch
public import proofs.«01_k».proof.Proof.KernelIdeal.Launch
public import proofs.«01_k».proof.Proof.Value.Finite
public import proofs.«01_k».proof.Proof.Value.Equal

@[expose] public section

noncomputable section

namespace Cert.Proof

open Idealize.ShloMosaic Idealize.SL.Sem

/-- The kernel runs, its arguments stay, its counters end at zero. -/
theorem frame_kernel : quiescent_Kernel := fun m g _ =>
  (θ_run Cert.Kernel.defs _ _).mono (fun _ h => ⟨fun c => (h.1 c).2, h.2⟩) (Cert.Kernel.Moe.run_out m g)

/-- The idealized kernel runs, its arguments stay, its counters end at zero. -/
theorem frame_ideal : quiescent_KernelIdeal := fun m g _ =>
  (θ_run Cert.KernelIdeal.defs _ _).mono (fun _ h => ⟨fun c => (h.1 c).2, h.2⟩) (Cert.KernelIdeal.Moe.run_out m g)

/-- The reference runs, its arguments stay, its counters end at zero. -/
theorem frame_reference : quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Where the tokens and the router are finite, every device ends with the reference's result. -/
theorem same_result : algebraic_KernelIdeal_ReferenceIdeal_pre_finite_router_KernelIdeal := by
  intro m g m' g' hpre harg
  have hfin := Cert.Moe.finite_reads _ _ _ _ _ (hpre 0)
  rw [(harg 0).1, (harg 0).2.1] at hfin
  have hout : ∀ c, Cert.KernelIdeal.Moe.outAt m c = Cert.Moe.Ref.result
      (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3))
      (m' ((0 : Dev Cert.ReferenceIdeal.nD).tc.loc Cert.ReferenceIdeal.main_arg4)) := by
    intro c
    funext i
    obtain ⟨n, f, rfl⟩ : ∃ n f, i = ix2 n f := ⟨i 0, i 1, funext fun a => by fin_cases a <;> rfl⟩
    rw [Cert.Moe.result_total]
    exact Cert.Moe.outAt_total m _ (fun p => (Cert.KernelIdeal.Moe.own_eq m p).trans (harg p).2.2.2.1) c _ _ _ _
      ((Cert.KernelIdeal.Moe.xV_eq m c).trans (harg c).1) ((Cert.KernelIdeal.Moe.rV_eq m c).trans (harg c).2.1)
      ((Cert.KernelIdeal.Moe.eV_eq m c).trans (harg c).2.2.1) ((Cert.KernelIdeal.Moe.sV_eq m c).trans (harg c).2.2.2.2) hfin.1 hfin.2 n f
  exact ⟨_, (θ_run Cert.KernelIdeal.defs _ _).mono (fun _ h c => ⟨(h.1 c).1.trans (hout c), (h.1 c).2⟩) (Cert.KernelIdeal.Moe.run_out m g),
    (θ_run Cert.ReferenceIdeal.defs _ _).mono (fun _ h => h 0) (Cert.ReferenceIdeal.Value.run m' g')⟩

theorem claim : Cert.Claim :=
  ⟨Cert.Kernel.Gen.facts, Cert.KernelIdeal.Gen.facts, Cert.ReferenceIdeal.Gen.facts, Cert.Pre_finite_router_KernelIdeal.Gen.facts,
    Cert.Pre_finite_router_ReferenceIdeal.Gen.facts, frame_kernel, frame_ideal, fun m g _ => frame_ideal m g trivial, frame_reference,
    fun m g _ => frame_reference m g trivial, trivial, same_result⟩

end Cert.Proof

end
